-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_published_params [hPre_published_params : Cert.Pre_published_params.Facts] (m : (ℓ : Loc Cert.KernelIdeal.nD Cert.KernelIdeal.τ Cert.KernelIdeal.sig) → Buf (Elt Ideal) ℓ) : Prop :=
  ∀ c : Dev Cert.KernelIdeal.nD,
    (Cert.Pre_published_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_published_params [hPre_published_params : Cert.Pre_published_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_published_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_published_params [hKernelIdeal : Cert.KernelIdeal.Facts] [hPre_published_params : Cert.Pre_published_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_published_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_published_params [hReferenceIdeal : Cert.ReferenceIdeal.Facts] [hPre_published_params : Cert.Pre_published_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_published_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "log2e_over_8" .f32 0x3E38AA3B#32 (((Real.log 2)⁻¹ * (1 / 8) : ℝ) : EReal)

def algebraic_KernelIdeal_ReferenceIdeal_pre_published_params [hKernelIdeal : Cert.KernelIdeal.Facts] [hReferenceIdeal : Cert.ReferenceIdeal.Facts] [hPre_published_params : Cert.Pre_published_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_published_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v489) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_published_params : Cert.Pre_published_params.Facts),
    quiescent_Kernel (hKernel := hKernel)
    ∧ quiescent_KernelIdeal (hKernelIdeal := hKernelIdeal)
    ∧ quiescent_KernelIdeal_pre_published_params (hKernelIdeal := hKernelIdeal) (hPre_published_params := hPre_published_params)
    ∧ quiescent_ReferenceIdeal (hReferenceIdeal := hReferenceIdeal)
    ∧ quiescent_ReferenceIdeal_pre_published_params (hReferenceIdeal := hReferenceIdeal) (hPre_published_params := hPre_published_params)
    ∧ preserves_Kernel_KernelIdeal
    ∧ algebraic_KernelIdeal_ReferenceIdeal_pre_published_params (hKernelIdeal := hKernelIdeal) (hReferenceIdeal := hReferenceIdeal) (hPre_published_params := hPre_published_params)
-- ==== Pre_published_params.lean ====
abbrev S32x512x768 : Shape := ⟨3, ![32, 512, 768]⟩
abbrev S32x16 : Shape := ⟨2, ![32, 16]⟩
abbrev S4x768x768 : Shape := ⟨3, ![4, 768, 768]⟩
abbrev S4x768 : Shape := ⟨2, ![4, 768]⟩
abbrev S768x768 : Shape := ⟨2, ![768, 768]⟩
abbrev S768 : Shape := ⟨1, ![768]⟩
abbrev S1x768 : Shape := ⟨2, ![1, 768]⟩
abbrev S256x784 : Shape := ⟨2, ![256, 784]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S4x768x768 : S_.BroadcastsInDim S4x768x768 (![] : Fin 0 → Fin S4x768x768.rank)
  reducesTo_S4x768x768_S_d0_1_2 : S4x768x768.ReducesTo [0, 1, 2] S_
  bcast_S_S1x768 : S_.BroadcastsInDim S1x768 (![] : Fin 0 → Fin S1x768.rank)
  reducesTo_S1x768_S_d0_1 : S1x768.ReducesTo [0, 1] S_
  bcast_S_S4x768 : S_.BroadcastsInDim S4x768 (![] : Fin 0 → Fin S4x768.rank)
  reducesTo_S4x768_S_d0_1 : S4x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg11 : FVec F S4x768 .f32) (main_arg12 : FVec F S4x768 .f32) (main_arg14 : FVec F S768 .f32) (main_v30 : IVec S_ 1) (main_v32 : IVec S4x768 1) : IVec S_ 1 :=
  let main_c_13 : IVec S_ 1 := constantI S_ 1 1#1
  let main_v33 : IVec S_ 1 := (fun x v => Host.reduce IntOp.andi x v reducesTo_S4x768_S_d0_1 h_S_) main_v32 main_c_13
  let main_v34 : IVec S_ 1 := andi main_v30 main_v33
  let main_cst_14 : FVec F S_ .f32 := constant S_ .f32 0x3F800000#32
  let main_v35 : FVec F S4x768 .f32 := broadcastInDim S4x768 ![] bcast_S_S4x768 main_cst_14
  let main_v36 : IVec S4x768 1 := cmpf .oeq main_arg11 main_v35
  let main_c_15 : IVec S_ 1 := constantI S_ 1 1#1
  let main_v37 : IVec S_ 1 := (fun x v => Host.reduce IntOp.andi x v reducesTo_S4x768_S_d0_1 h_S_) main_v36 main_c_15
  let main_v38 : IVec S_ 1 := andi main_v34 main_v37
  let main_cst_16 : FVec F S_ .f32 := constant S_ .f32 0x00000000#32
  let main_v39 : FVec F S4x768 .f32 := broadcastInDim S4x768 ![] bcast_S_S4x768 main_cst_16
  let main_v40 : IVec S4x768 1 := cmpf .oeq main_arg12 main_v39
  let main_c_17 : IVec S_ 1 := constantI S_ 1 1#1
  let main_v41 : IVec S_ 1 := (fun x v => Host.reduce IntOp.andi x v reducesTo_S4x768_S_d0_1 h_S_) main_v40 main_c_17
  let main_v42 : IVec S_ 1 := andi main_v38 main_v41
  let main_cst_18 : FVec F S_ .f32 := constant S_ .f32 0x00000000#32
  let main_v43 : FVec F S768 .f32 := broadcastInDim S768 ![] bcast_S_S768 main_cst_18
  let main_v44 : IVec S768 1 := cmpf .oeq main_arg14 main_v43
  let main_c_19 : IVec S_ 1 := constantI S_ 1 1#1
  let main_v45 : IVec S_ 1 := (fun x v => Host.reduce IntOp.andi x v reducesTo_S768_S_d0 h_S_) main_v44 main_c_19
  let main_v46 : IVec S_ 1 := andi main_v42 main_v45
  main_v46

def fn_part1 {F : FTy → Type} [FloatOps F] (main_arg5 : FVec F S4x768 .f32) (main_arg6 : FVec F S4x768 .f32) (main_arg8 : FVec F S4x768 .f32) (main_arg10 : FVec F S4x768 .f32) (main_arg11 : FVec F S4x768 .f32) (main_arg12 : FVec F S4x768 .f32) (main_arg14 : FVec F S768 .f32) (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  let main_cst_6 : FVec F S_ .f32 := constant S_ .f32 0x3F800000#32
  let main_v19 : FVec F S4x768 .f32 := broadcastInDim S4x768 ![] bcast_S_S4x768 main_cst_6
  let main_v20 : IVec S4x768 1 := cmpf .oeq main_arg5 main_v19
  let main_c_7 : IVec S_ 1 := constantI S_ 1 1#1
  let main_v21 : IVec S_ 1 := (fun x v => Host.reduce IntOp.andi x v reducesTo_S4x768_S_d0_1 h_S_) main_v20 main_c_7
  let main_v22 : IVec S_ 1 := andi main_v18 main_v21
  let main_cst_8 : FVec F S_ .f32 := constant S_ .f32 0x00000000#32
  let main_v23 : FVec F S4x768 .f32 := broadcastInDim S4x768 ![] bcast_S_S4x768 main_cst_8
  let main_v24 : IVec S4x768 1 := cmpf .oeq main_arg6 main_v23
  let main_c_9 : IVec S_ 1 := constantI S_ 1 1#1
  let main_v25 : IVec S_ 1 := (fun x v => Host.reduce IntOp.andi x v reducesTo_S4x768_S_d0_1 h_S_) main_v24 main_c_9
  let main_v26 : IVec S_ 1 := andi main_v22 main_v25
  let main_cst_10 : FVec F S_ .f32 := constant S_ .f32 0x00000000#32
  let main_v27 : FVec F S4x768 .f32 := broadcastInDim S4x768 ![] bcast_S_S4x768 main_cst_10
  let main_v28 : IVec S4x768 1 := cmpf .oeq main_arg8 main_v27
  let main_c_11 : IVec S_ 1 := constantI S_ 1 1#1
  let main_v29 : IVec S_ 1 := (fun x v => Host.reduce IntOp.andi x v reducesTo_S4x768_S_d0_1 h_S_) main_v28 main_c_11
  let main_v30 : IVec S_ 1 := andi main_v26 main_v29
  let main_cst_12 : FVec F S_ .f32 := constant S_ .f32 0x00000000#32
  let main_v31 : FVec F S4x768 .f32 := broadcastInDim S4x768 ![] bcast_S_S4x768 main_cst_12
  let main_v32 : IVec S4x768 1 := cmpf .oeq main_arg10 main_v31
  fn_part2 (F := F) main_arg11 main_arg12 main_arg14 main_v30 main_v32

def fn {F : FTy → Type} [FloatOps F] (main_arg0 : FVec F S32x512x768 .f32) (main_arg1 : FVec F S32x16 .f32) (main_arg2 : FVec F S4x768x768 .f32) (main_arg3 : FVec F S4x768x768 .f32) (main_arg4 : FVec F S4x768x768 .f32) (main_arg5 : FVec F S4x768 .f32) (main_arg6 : FVec F S4x768 .f32) (main_arg7 : FVec F S4x768x768 .f32) (main_arg8 : FVec F S4x768 .f32) (main_arg9 : FVec F S4x768x768 .f32) (main_arg10 : FVec F S4x768 .f32) (main_arg11 : FVec F S4x768 .f32) (main_arg12 : FVec F S4x768 .f32) (main_arg13 : FVec F S768x768 .f32) (main_arg14 : FVec F S768 .f32) (main_arg15 : FVec F S1x768 .f32) (main_arg16 : FVec F S256x784 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S4x768x768 .f32 := Host.absf main_arg2
  let main_cst_0 : FVec F S_ .f32 := constant S_ .f32 0x7F800000#32
  let main_v5 : FVec F S4x768x768 .f32 := broadcastInDim S4x768x768 ![] bcast_S_S4x768x768 main_cst_0
  let main_v6 : IVec S4x768x768 1 := cmpf .olt main_v4 main_v5
  let main_c_1 : IVec S_ 1 := constantI S_ 1 1#1
  let main_v7 : IVec S_ 1 := (fun x v => Host.reduce IntOp.andi x v reducesTo_S4x768x768_S_d0_1_2 h_S_) main_v6 main_c_1
  let main_v8 : IVec S_ 1 := andi main_v3 main_v7
  let main_v9 : FVec F S4x768x768 .f32 := Host.absf main_arg3
  let main_cst_2 : FVec F S_ .f32 := constant S_ .f32 0x7F800000#32
  let main_v10 : FVec F S4x768x768 .f32 := broadcastInDim S4x768x768 ![] bcast_S_S4x768x768 main_cst_2
  let main_v11 : IVec S4x768x768 1 := cmpf .olt main_v9 main_v10
  let main_c_3 : IVec S_ 1 := constantI S_ 1 1#1
  let main_v12 : IVec S_ 1 := (fun x v => Host.reduce IntOp.andi x v reducesTo_S4x768x768_S_d0_1_2 h_S_) main_v11 main_c_3
  let main_v13 : IVec S_ 1 := andi main_v8 main_v12
  let main_v14 : FVec F S1x768 .f32 := Host.absf main_arg15
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_arg5 main_arg6 main_arg8 main_arg10 main_arg11 main_arg12 main_arg14 main_v13 main_v16
-- ==== Kernel.lean ====
abbrev S32x512x768 : Shape := ⟨3, ![32, 512, 768]⟩
abbrev S32x16 : Shape := ⟨2, ![32, 16]⟩
abbrev S4x768x768 : Shape := ⟨3, ![4, 768, 768]⟩
abbrev S4x768 : Shape := ⟨2, ![4, 768]⟩
abbrev S768x768 : Shape := ⟨2, ![768, 768]⟩
abbrev S768 : Shape := ⟨1, ![768]⟩
abbrev S1x768 : Shape := ⟨2, ![1, 768]⟩
abbrev S256x784 : Shape := ⟨2, ![256, 784]⟩
abbrev S512 : Shape := ⟨1, ![512]⟩
abbrev S512x1 : Shape := ⟨2, ![512, 1]⟩
abbrev S_ : Shape := ⟨0, ![]⟩
abbrev S512x768 : Shape := ⟨2, ![512, 768]⟩
abbrev S4x768x2304 : Shape := ⟨3, ![4, 768, 2304]⟩
abbrev S784x256 : Shape := ⟨2, ![784, 256]⟩
abbrev S768x256 : Shape := ⟨2, ![768, 256]⟩
abbrev S16x256 : Shape := ⟨2, ![16, 256]⟩
abbrev S32x1x16 : Shape := ⟨3, ![32, 1, 16]⟩
abbrev S32x1x256 : Shape := ⟨3, ![32, 1, 256]⟩
abbrev S2x512x768 : Shape := ⟨3, ![2, 512, 768]⟩
abbrev S1x768x2304 : Shape := ⟨3, ![1, 768, 2304]⟩
abbrev S1x768x768 : Shape := ⟨3, ![1, 768, 768]⟩
abbrev S2x1x16 : Shape := ⟨3, ![2, 1, 16]⟩
abbrev S2x1x256 : Shape := ⟨3, ![2, 1, 256]⟩
abbrev S1024x768 : Shape := ⟨2, ![1024, 768]⟩
abbrev S1024x2304 : Shape := ⟨2, ![1024, 2304]⟩
abbrev S1x512x768 : Shape := ⟨3, ![1, 512, 768]⟩
abbrev S768x2304 : Shape := ⟨2, ![768, 2304]⟩
abbrev S512x64 : Shape := ⟨2, ![512, 64]⟩
abbrev S512x512 : Shape := ⟨2, ![512, 512]⟩
abbrev S1x512 : Shape := ⟨2, ![1, 512]⟩
abbrev S1 : Shape := ⟨1, ![1]⟩
abbrev S1x1 : Shape := ⟨2, ![1, 1]⟩
abbrev S1x256 : Shape := ⟨2, ![1, 256]⟩
abbrev S1x1x16 : Shape := ⟨3, ![1, 1, 16]⟩
abbrev S1x16 : Shape := ⟨2, ![1, 16]⟩
abbrev S1x1x256 : Shape := ⟨3, ![1, 1, 256]⟩

abbrev nBuf : Space → Nat
  | .hbm => 97
  | .vmem => 22
  | .smem => 0
  | _ => 0

abbrev bufTy : (tb : Table) → Fin (tcTables nBuf tb) → BufTy
  | .hbm, ⟨0, _⟩ => ⟨S32x512x768, .f32⟩
  | .hbm, ⟨1, _⟩ => ⟨S32x16, .f32⟩
  | .hbm, ⟨2, _⟩ => ⟨S4x768x768, .f32⟩
  | .hbm, ⟨3, _⟩ => ⟨S4x768x768, .f32⟩
  | .hbm, ⟨4, _⟩ => ⟨S4x768x768, .f32⟩
  | .hbm, ⟨5, _⟩ => ⟨S4x768, .f32⟩
  | .hbm, ⟨6, _⟩ => ⟨S4x768, .f32⟩
  | .hbm, ⟨7, _⟩ => ⟨S4x768x768, .f32⟩
  | .hbm, ⟨8, _⟩ => ⟨S4x768, .f32⟩
  | .hbm, ⟨9, _⟩ => ⟨S4x768x768, .f32⟩
  | .hbm, ⟨10, _⟩ => ⟨S4x768, .f32⟩
  | .hbm, ⟨11, _⟩ => ⟨S4x768, .f32⟩
  | .hbm, ⟨12, _⟩ => ⟨S4x768, .f32⟩
  | .hbm, ⟨13, _⟩ => ⟨S768x768, .f32⟩
  | .hbm, ⟨14, _⟩ => ⟨S768, .f32⟩
  | .hbm, ⟨15, _⟩ => ⟨S1x768, .f32⟩
  | .hbm, ⟨16, _⟩ => ⟨S256x784, .f32⟩
  | .hbm, ⟨17, _⟩ => ⟨S512, .f32⟩
  | .hbm, ⟨18, _⟩ => ⟨S512x1, .f32⟩
  | .hbm, ⟨19, _⟩ => ⟨S768, .i32⟩
  | .hbm, ⟨20, _⟩ => ⟨S_, .i32⟩
  | .hbm, ⟨21, _⟩ => ⟨S_, .i32⟩
  | .hbm, ⟨22, _⟩ => ⟨S768, .i32⟩
  | .hbm, ⟨23, _⟩ => ⟨S768, .i32⟩
  | .hbm, ⟨24, _⟩ => ⟨S768, .i32⟩
  | .hbm, ⟨25, _⟩ => ⟨S_, .i32⟩
  | .hbm, ⟨26, _⟩ => ⟨S768, .i32⟩
  | .hbm, ⟨27, _⟩ => ⟨S768, .i1⟩
  | .hbm, ⟨28, _⟩ => ⟨S768, .i32⟩
  | .hbm, ⟨29, _⟩ => ⟨S768, .i32⟩
  | .hbm, ⟨30, _⟩ => ⟨S_, .i32⟩
  | .hbm, ⟨31, _⟩ => ⟨S768, .i32⟩
  | .hbm, ⟨32, _⟩ => ⟨S768, .i1⟩
  | .hbm, ⟨33, _⟩ => ⟨S768, .i1⟩
  | .hbm, ⟨34, _⟩ => ⟨S_, .i32⟩
  | .hbm, ⟨35, _⟩ => ⟨S768, .i32⟩
  | .hbm, ⟨36, _⟩ => ⟨S768, .i32⟩
  | .hbm, ⟨37, _⟩ => ⟨S768, .i32⟩
  | .hbm, ⟨38, _⟩ => ⟨S_, .i32⟩
  | .hbm, ⟨39, _⟩ => ⟨S768, .i32⟩
  | .hbm, ⟨40, _⟩ => ⟨S768, .i32⟩
  | .hbm, ⟨41, _⟩ => ⟨S768, .f32⟩
  | .hbm, ⟨42, _⟩ => ⟨S_, .f32⟩
  | .hbm, ⟨43, _⟩ => ⟨S768, .f32⟩
  | .hbm, ⟨44, _⟩ => ⟨S768, .f32⟩
  | .hbm, ⟨45, _⟩ => ⟨S_, .f32⟩
  | .hbm, ⟨46, _⟩ => ⟨S768, .f32⟩
  | .hbm, ⟨47, _⟩ => ⟨S768, .f32⟩
  | .hbm, ⟨48, _⟩ => ⟨S1x768, .f32⟩
  | .hbm, ⟨49, _⟩ => ⟨S512x768, .f32⟩
  | .hbm, ⟨50, _⟩ => ⟨S512x768, .f32⟩
  | .hbm, ⟨51, _⟩ => ⟨S512x768, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S768, .i32⟩
  | .hbm, ⟨59, _⟩ => ⟨S768, .i32⟩
  | .hbm, ⟨60, _⟩ => ⟨S_, .i32⟩
  | .hbm, ⟨61, _⟩ => ⟨S768, .i32⟩
  | .hbm, ⟨62, _⟩ => ⟨S768, .i1⟩
  | .hbm, ⟨63, _⟩ => ⟨S_, .i32⟩
  | .hbm, ⟨64, _⟩ => ⟨S768, .i32⟩
  | .hbm, ⟨65, _⟩ => ⟨S768, .i1⟩
  | .hbm, ⟨66, _⟩ => ⟨S_, .i32⟩
  | .hbm, ⟨67, _⟩ => ⟨S_, .i1⟩
  | .hbm, ⟨68, _⟩ => ⟨S768, .i1⟩
  | .hbm, ⟨69, _⟩ => ⟨S768, .i1⟩
  | .hbm, ⟨70, _⟩ => ⟨S768, .i1⟩
  | .hbm, ⟨71, _⟩ => ⟨S768, .i32⟩
  | .hbm, ⟨72, _⟩ => ⟨S768, .i32⟩
  | .hbm, ⟨73, _⟩ => ⟨S768, .i32⟩
  | .hbm, ⟨74, _⟩ => ⟨S_, .i32⟩
  | .hbm, ⟨75, _⟩ => ⟨S768, .i32⟩
  | .hbm, ⟨76, _⟩ => ⟨S768, .i1⟩
  | .hbm, ⟨77, _⟩ => ⟨S512x768, .f32⟩
  | .hbm, ⟨78, _⟩ => ⟨S512x768, .f32⟩
  | .hbm, ⟨79, _⟩ => ⟨S512x768, .i1⟩
  | .hbm, ⟨80, _⟩ => ⟨S512x768, .f32⟩
  | .hbm, ⟨81, _⟩ => ⟨S4x768x768, .f32⟩
  | .hbm, ⟨82, _⟩ => ⟨S4x768x768, .f32⟩
  | .hbm, ⟨83, _⟩ => ⟨S4x768x768, .f32⟩
  | .hbm, ⟨84, _⟩ => ⟨S4x768x2304, .f32⟩
  | .hbm, ⟨85, _⟩ => ⟨S4x768x2304, .bf16⟩
  | .hbm, ⟨86, _⟩ => ⟨S4x768x768, .f32⟩
  | .hbm, ⟨87, _⟩ => ⟨S4x768x768, .bf16⟩
  | .hbm, ⟨88, _⟩ => ⟨S4x768x768, .f32⟩
  | .hbm, ⟨89, _⟩ => ⟨S4x768x768, .bf16⟩
  | .hbm, ⟨90, _⟩ => ⟨S768x768, .f32⟩
  | .hbm, ⟨91, _⟩ => ⟨S768x768, .bf16⟩
  | .hbm, ⟨92, _⟩ => ⟨S784x256, .f32⟩
  | .hbm, ⟨93, _⟩ => ⟨S768x256, .f32⟩
  | .hbm, ⟨94, _⟩ => ⟨S16x256, .f32⟩
  | .hbm, ⟨95, _⟩ => ⟨S32x1x16, .f32⟩
  | .hbm, ⟨96, _⟩ => ⟨S32x1x256, .f32⟩
  | .local _ .vmem, ⟨0, _⟩ => ⟨S2x512x768, .f32⟩
  | .local _ .vmem, ⟨1, _⟩ => ⟨S2x512x768, .f32⟩
  | .local _ .vmem, ⟨2, _⟩ => ⟨S512x768, .f32⟩
  | .local _ .vmem, ⟨3, _⟩ => ⟨S1x768x2304, .bf16⟩
  | .local _ .vmem, ⟨4, _⟩ => ⟨S1x768x2304, .bf16⟩
  | .local _ .vmem, ⟨5, _⟩ => ⟨S1x768x768, .bf16⟩
  | .local _ .vmem, ⟨6, _⟩ => ⟨S1x768x768, .bf16⟩
  | .local _ .vmem, ⟨7, _⟩ => ⟨S1x768x768, .bf16⟩
  | .local _ .vmem, ⟨8, _⟩ => ⟨S1x768x768, .bf16⟩
  | .local _ .vmem, ⟨9, _⟩ => ⟨S768x768, .bf16⟩
  | .local _ .vmem, ⟨10, _⟩ => ⟨S1x768, .f32⟩
  | .local _ .vmem, ⟨11, _⟩ => ⟨S768x256, .f32⟩
  | .local _ .vmem, ⟨12, _⟩ => ⟨S16x256, .f32⟩
  | .local _ .vmem, ⟨13, _⟩ => ⟨S2x1x16, .f32⟩
  | .local _ .vmem, ⟨14, _⟩ => ⟨S2x1x16, .f32⟩
  | .local _ .vmem, ⟨15, _⟩ => ⟨S2x1x256, .f32⟩
  | .local _ .vmem, ⟨16, _⟩ => ⟨S2x1x256, .f32⟩
  | .local _ .vmem, ⟨17, _⟩ => ⟨S1024x768, .f32⟩
  | .local _ .vmem, ⟨18, _⟩ => ⟨S1024x768, .bf16⟩
  | .local _ .vmem, ⟨19, _⟩ => ⟨S1024x2304, .bf16⟩
  | .local _ .vmem, ⟨20, _⟩ => ⟨S1024x768, .f32⟩
  | .local _ .vmem, ⟨21, _⟩ => ⟨S1024x768, .bf16⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v3 : Ref sig .tc := ⟨.hbm, 37, rfl⟩
abbrev main_c_0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst : Ref sig .tc := ⟨.hbm, 42, rfl⟩
abbrev main_v7 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_c_2 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v15 : Ref sig .tc := ⟨.hbm, 73, rfl⟩
abbrev main_c_3 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_call2_v0 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v597 : BitVec 1 := Scalar.cmpi .eq arg1 c3_i32
  let v598 : BitVec 32 := Scalar.extui v597
  let c0_i32_362 : BitVec 32 := 0#32
  let v599 : BitVec 1 := Scalar.cmpi .ne v598 c0_i32_362
  v599

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x1x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "log2e_over_8" => some (((Real.log 2)⁻¹ * (1 / 8) : ℝ) : EReal)
  | _ => none
-- ==== ReferenceIdeal.lean ====
abbrev S32x512x768 : Shape := ⟨3, ![32, 512, 768]⟩
abbrev S32x16 : Shape := ⟨2, ![32, 16]⟩
abbrev S4x768x768 : Shape := ⟨3, ![4, 768, 768]⟩
abbrev S4x768 : Shape := ⟨2, ![4, 768]⟩
abbrev S768x768 : Shape := ⟨2, ![768, 768]⟩
abbrev S768 : Shape := ⟨1, ![768]⟩
abbrev S1x768 : Shape := ⟨2, ![1, 768]⟩
abbrev S256x784 : Shape := ⟨2, ![256, 784]⟩
abbrev S512 : Shape := ⟨1, ![512]⟩
abbrev S512x1 : Shape := ⟨2, ![512, 1]⟩
abbrev S_ : Shape := ⟨0, ![]⟩
abbrev S512x768 : Shape := ⟨2, ![512, 768]⟩
abbrev S1x512x768 : Shape := ⟨3, ![1, 512, 768]⟩
abbrev S1x768x768 : Shape := ⟨3, ![1, 768, 768]⟩
abbrev S32x512x12x64 : Shape := ⟨4, ![32, 512, 12, 64]⟩
abbrev S32x12x512x512 : Shape := ⟨4, ![32, 12, 512, 512]⟩
abbrev S32x12x512 : Shape := ⟨3, ![32, 12, 512]⟩
abbrev S32x12x512x1 : Shape := ⟨4, ![32, 12, 512, 1]⟩
abbrev S32x12x64x512 : Shape := ⟨4, ![32, 12, 64, 512]⟩
abbrev S32x512 : Shape := ⟨2, ![32, 512]⟩
abbrev S32x512x1 : Shape := ⟨3, ![32, 512, 1]⟩
abbrev S1x1x768 : Shape := ⟨3, ![1, 1, 768]⟩
abbrev S768x1 : Shape := ⟨2, ![768, 1]⟩
abbrev S32x1 : Shape := ⟨2, ![32, 1]⟩
abbrev S32x1x1 : Shape := ⟨3, ![32, 1, 1]⟩
abbrev S32x768 : Shape := ⟨2, ![32, 768]⟩
abbrev S32x784 : Shape := ⟨2, ![32, 784]⟩
abbrev S784x256 : Shape := ⟨2, ![784, 256]⟩
abbrev S32x256 : Shape := ⟨2, ![32, 256]⟩
abbrev S32x1x256 : Shape := ⟨3, ![32, 1, 256]⟩

abbrev nBuf : Space → Nat
  | .hbm => 618
  | .vmem => 0
  | .smem => 0
  | _ => 0

abbrev hbmTy0_0 (i : Nat) : BufTy := match i % 128 with
  | 0 => ⟨S32x512x768, .f32⟩
  | 1 => ⟨S32x16, .f32⟩
  | 2 => ⟨S4x768x768, .f32⟩
  | 3 => ⟨S4x768x768, .f32⟩
  | 4 => ⟨S4x768x768, .f32⟩
  | 5 => ⟨S4x768, .f32⟩
  | 6 => ⟨S4x768, .f32⟩
  | 7 => ⟨S4x768x768, .f32⟩
  | 8 => ⟨S4x768, .f32⟩
  | 9 => ⟨S4x768x768, .f32⟩
  | 10 => ⟨S4x768, .f32⟩
  | 11 => ⟨S4x768, .f32⟩
  | 12 => ⟨S4x768, .f32⟩
  | 13 => ⟨S768x768, .f32⟩
  | 14 => ⟨S768, .f32⟩
  | 15 => ⟨S1x768, .f32⟩
  | 16 => ⟨S256x784, .f32⟩
  | 17 => ⟨S512, .f32⟩
  | 18 => ⟨S512x1, .f32⟩
  | 19 => ⟨S768, .i32⟩
  | 20 => ⟨S_, .i32⟩
  | 21 => ⟨S_, .i32⟩
  | 22 => ⟨S768, .i32⟩
  | 23 => ⟨S768, .i32⟩
  | 24 => ⟨S768, .i32⟩
  | 25 => ⟨S_, .i32⟩
  | 26 => ⟨S768, .i32⟩
  | 27 => ⟨S768, .i1⟩
  | 28 => ⟨S768, .i32⟩
  | 29 => ⟨S768, .i32⟩
  | 30 => ⟨S_, .i32⟩
  | 31 => ⟨S768, .i32⟩
  | 32 => ⟨S768, .i1⟩
  | 33 => ⟨S768, .i1⟩
  | 34 => ⟨S_, .i32⟩
  | 35 => ⟨S768, .i32⟩
  | 36 => ⟨S768, .i32⟩
  | 37 => ⟨S768, .i32⟩
  | 38 => ⟨S_, .i32⟩
  | 39 => ⟨S768, .i32⟩
  | 40 => ⟨S768, .i32⟩
  | 41 => ⟨S768, .f32⟩
  | 42 => ⟨S_, .f32⟩
  | 43 => ⟨S768, .f32⟩
  | 44 => ⟨S768, .f32⟩
  | 45 => ⟨S_, .f32⟩
  | 46 => ⟨S768, .f32⟩
  | 47 => ⟨S768, .f32⟩
  | 48 => ⟨S1x768, .f32⟩
  | 49 => ⟨S512x768, .f32⟩
  | 50 => ⟨S512x768, .f32⟩
  | 51 => ⟨S512x768, .f32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S768, .i32⟩
  | 59 => ⟨S768, .i32⟩
  | 60 => ⟨S_, .i32⟩
  | 61 => ⟨S768, .i32⟩
  | 62 => ⟨S768, .i1⟩
  | 63 => ⟨S_, .i32⟩
  | 64 => ⟨S768, .i32⟩
  | 65 => ⟨S768, .i1⟩
  | 66 => ⟨S_, .i32⟩
  | 67 => ⟨S_, .i1⟩
  | 68 => ⟨S768, .i1⟩
  | 69 => ⟨S768, .i1⟩
  | 70 => ⟨S768, .i1⟩
  | 71 => ⟨S768, .i32⟩
  | 72 => ⟨S768, .i32⟩
  | 73 => ⟨S768, .i32⟩
  | 74 => ⟨S_, .i32⟩
  | 75 => ⟨S768, .i32⟩
  | 76 => ⟨S768, .i1⟩
  | 77 => ⟨S512x768, .f32⟩
  | 78 => ⟨S512x768, .f32⟩
  | 79 => ⟨S512x768, .i1⟩
  | 80 => ⟨S512x768, .f32⟩
  | 81 => ⟨S1x512x768, .f32⟩
  | 82 => ⟨S32x512x768, .f32⟩
  | 83 => ⟨S32x512x768, .f32⟩
  | 84 => ⟨S1x768x768, .f32⟩
  | 85 => ⟨S768x768, .f32⟩
  | 86 => ⟨S1x768x768, .f32⟩
  | 87 => ⟨S768x768, .f32⟩
  | 88 => ⟨S1x768x768, .f32⟩
  | 89 => ⟨S768x768, .f32⟩
  | 90 => ⟨S1x768, .f32⟩
  | 91 => ⟨S768, .f32⟩
  | 92 => ⟨S1x768, .f32⟩
  | 93 => ⟨S768, .f32⟩
  | 94 => ⟨S1x768x768, .f32⟩
  | 95 => ⟨S768x768, .f32⟩
  | 96 => ⟨S1x768, .f32⟩
  | 97 => ⟨S768, .f32⟩
  | 98 => ⟨S1x768x768, .f32⟩
  | 99 => ⟨S768x768, .f32⟩
  | 100 => ⟨S1x768, .f32⟩
  | 101 => ⟨S768, .f32⟩
  | 102 => ⟨S1x768, .f32⟩
  | 103 => ⟨S768, .f32⟩
  | 104 => ⟨S1x768, .f32⟩
  | 105 => ⟨S768, .f32⟩
  | 106 => ⟨S768x768, .f32⟩
  | 107 => ⟨S32x512x768, .f32⟩
  | 108 => ⟨S32x512x12x64, .f32⟩
  | 109 => ⟨S768x768, .f32⟩
  | 110 => ⟨S32x512x768, .f32⟩
  | 111 => ⟨S32x512x12x64, .f32⟩
  | 112 => ⟨S768x768, .f32⟩
  | 113 => ⟨S32x512x768, .f32⟩
  | 114 => ⟨S32x512x12x64, .f32⟩
  | 115 => ⟨S32x12x512x512, .f32⟩
  | 116 => ⟨S_, .f32⟩
  | 117 => ⟨S_, .f32⟩
  | 118 => ⟨S32x12x512x512, .f32⟩
  | 119 => ⟨S32x12x512x512, .f32⟩
  | 120 => ⟨S_, .f32⟩
  | 121 => ⟨S32x12x512, .f32⟩
  | 122 => ⟨S_, .f32⟩
  | 123 => ⟨S32x12x512, .f32⟩
  | 124 => ⟨S32x12x512, .f32⟩
  | 125 => ⟨S32x12x512x1, .f32⟩
  | 126 => ⟨S32x12x512x512, .f32⟩
  | 127 => ⟨S32x12x512x512, .f32⟩
  | _ => ⟨S32x512x768, .f32⟩

abbrev hbmTy0_1 (i : Nat) : BufTy := match i % 128 with
  | 0 => ⟨S32x12x512x512, .f32⟩
  | 1 => ⟨S_, .f32⟩
  | 2 => ⟨S32x12x512, .f32⟩
  | 3 => ⟨S32x12x512x1, .f32⟩
  | 4 => ⟨S32x12x512x512, .f32⟩
  | 5 => ⟨S32x12x512x512, .f32⟩
  | 6 => ⟨S32x12x64x512, .f32⟩
  | 7 => ⟨S32x512x12x64, .f32⟩
  | 8 => ⟨S32x512x768, .f32⟩
  | 9 => ⟨S32x512x768, .f32⟩
  | 10 => ⟨S_, .f32⟩
  | 11 => ⟨S32x512, .f32⟩
  | 12 => ⟨S32x512x1, .f32⟩
  | 13 => ⟨S_, .f32⟩
  | 14 => ⟨S32x512x1, .f32⟩
  | 15 => ⟨S32x512x1, .f32⟩
  | 16 => ⟨S32x512x768, .f32⟩
  | 17 => ⟨S32x512x768, .f32⟩
  | 18 => ⟨S32x512x768, .f32⟩
  | 19 => ⟨S_, .f32⟩
  | 20 => ⟨S32x512, .f32⟩
  | 21 => ⟨S32x512x1, .f32⟩
  | 22 => ⟨S_, .f32⟩
  | 23 => ⟨S32x512x1, .f32⟩
  | 24 => ⟨S32x512x1, .f32⟩
  | 25 => ⟨S32x512x768, .f32⟩
  | 26 => ⟨S32x512x768, .f32⟩
  | 27 => ⟨S_, .f32⟩
  | 28 => ⟨S32x512x1, .f32⟩
  | 29 => ⟨S32x512x1, .f32⟩
  | 30 => ⟨S32x512x1, .f32⟩
  | 31 => ⟨S32x512x768, .f32⟩
  | 32 => ⟨S32x512x768, .f32⟩
  | 33 => ⟨S1x1x768, .f32⟩
  | 34 => ⟨S32x512x768, .f32⟩
  | 35 => ⟨S32x512x768, .f32⟩
  | 36 => ⟨S1x1x768, .f32⟩
  | 37 => ⟨S32x512x768, .f32⟩
  | 38 => ⟨S32x512x768, .f32⟩
  | 39 => ⟨S768x768, .f32⟩
  | 40 => ⟨S32x512x768, .f32⟩
  | 41 => ⟨S1x1x768, .f32⟩
  | 42 => ⟨S32x512x768, .f32⟩
  | 43 => ⟨S32x512x768, .f32⟩
  | 44 => ⟨S_, .f32⟩
  | 45 => ⟨S32x512x768, .f32⟩
  | 46 => ⟨S32x512x768, .f32⟩
  | 47 => ⟨S768x768, .f32⟩
  | 48 => ⟨S32x512x768, .f32⟩
  | 49 => ⟨S1x1x768, .f32⟩
  | 50 => ⟨S32x512x768, .f32⟩
  | 51 => ⟨S32x512x768, .f32⟩
  | 52 => ⟨S32x512x768, .f32⟩
  | 53 => ⟨S_, .f32⟩
  | 54 => ⟨S32x512, .f32⟩
  | 55 => ⟨S32x512x1, .f32⟩
  | 56 => ⟨S_, .f32⟩
  | 57 => ⟨S32x512x1, .f32⟩
  | 58 => ⟨S32x512x1, .f32⟩
  | 59 => ⟨S32x512x768, .f32⟩
  | 60 => ⟨S32x512x768, .f32⟩
  | 61 => ⟨S32x512x768, .f32⟩
  | 62 => ⟨S_, .f32⟩
  | 63 => ⟨S32x512, .f32⟩
  | 64 => ⟨S32x512x1, .f32⟩
  | 65 => ⟨S_, .f32⟩
  | 66 => ⟨S32x512x1, .f32⟩
  | 67 => ⟨S32x512x1, .f32⟩
  | 68 => ⟨S32x512x768, .f32⟩
  | 69 => ⟨S32x512x768, .f32⟩
  | 70 => ⟨S_, .f32⟩
  | 71 => ⟨S32x512x1, .f32⟩
  | 72 => ⟨S32x512x1, .f32⟩
  | 73 => ⟨S32x512x1, .f32⟩
  | 74 => ⟨S32x512x768, .f32⟩
  | 75 => ⟨S32x512x768, .f32⟩
  | 76 => ⟨S1x1x768, .f32⟩
  | 77 => ⟨S32x512x768, .f32⟩
  | 78 => ⟨S32x512x768, .f32⟩
  | 79 => ⟨S1x1x768, .f32⟩
  | 80 => ⟨S32x512x768, .f32⟩
  | 81 => ⟨S32x512x768, .f32⟩
  | 82 => ⟨S1x768x768, .f32⟩
  | 83 => ⟨S768x768, .f32⟩
  | 84 => ⟨S1x768x768, .f32⟩
  | 85 => ⟨S768x768, .f32⟩
  | 86 => ⟨S1x768x768, .f32⟩
  | 87 => ⟨S768x768, .f32⟩
  | 88 => ⟨S1x768, .f32⟩
  | 89 => ⟨S768, .f32⟩
  | 90 => ⟨S1x768, .f32⟩
  | 91 => ⟨S768, .f32⟩
  | 92 => ⟨S1x768x768, .f32⟩
  | 93 => ⟨S768x768, .f32⟩
  | 94 => ⟨S1x768, .f32⟩
  | 95 => ⟨S768, .f32⟩
  | 96 => ⟨S1x768x768, .f32⟩
  | 97 => ⟨S768x768, .f32⟩
  | 98 => ⟨S1x768, .f32⟩
  | 99 => ⟨S768, .f32⟩
  | 100 => ⟨S1x768, .f32⟩
  | 101 => ⟨S768, .f32⟩
  | 102 => ⟨S1x768, .f32⟩
  | 103 => ⟨S768, .f32⟩
  | 104 => ⟨S768x768, .f32⟩
  | 105 => ⟨S32x512x768, .f32⟩
  | 106 => ⟨S32x512x12x64, .f32⟩
  | 107 => ⟨S768x768, .f32⟩
  | 108 => ⟨S32x512x768, .f32⟩
  | 109 => ⟨S32x512x12x64, .f32⟩
  | 110 => ⟨S768x768, .f32⟩
  | 111 => ⟨S32x512x768, .f32⟩
  | 112 => ⟨S32x512x12x64, .f32⟩
  | 113 => ⟨S32x12x512x512, .f32⟩
  | 114 => ⟨S_, .f32⟩
  | 115 => ⟨S_, .f32⟩
  | 116 => ⟨S32x12x512x512, .f32⟩
  | 117 => ⟨S32x12x512x512, .f32⟩
  | 118 => ⟨S_, .f32⟩
  | 119 => ⟨S32x12x512, .f32⟩
  | 120 => ⟨S_, .f32⟩
  | 121 => ⟨S32x12x512, .f32⟩
  | 122 => ⟨S32x12x512, .f32⟩
  | 123 => ⟨S32x12x512x1, .f32⟩
  | 124 => ⟨S32x12x512x512, .f32⟩
  | 125 => ⟨S32x12x512x512, .f32⟩
  | 126 => ⟨S32x12x512x512, .f32⟩
  | 127 => ⟨S_, .f32⟩
  | _ => ⟨S32x512x768, .f32⟩

abbrev hbmTy0_2 (i : Nat) : BufTy := match i % 128 with
  | 0 => ⟨S32x12x512, .f32⟩
  | 1 => ⟨S32x12x512x1, .f32⟩
  | 2 => ⟨S32x12x512x512, .f32⟩
  | 3 => ⟨S32x12x512x512, .f32⟩
  | 4 => ⟨S32x12x64x512, .f32⟩
  | 5 => ⟨S32x512x12x64, .f32⟩
  | 6 => ⟨S32x512x768, .f32⟩
  | 7 => ⟨S32x512x768, .f32⟩
  | 8 => ⟨S_, .f32⟩
  | 9 => ⟨S32x512, .f32⟩
  | 10 => ⟨S32x512x1, .f32⟩
  | 11 => ⟨S_, .f32⟩
  | 12 => ⟨S32x512x1, .f32⟩
  | 13 => ⟨S32x512x1, .f32⟩
  | 14 => ⟨S32x512x768, .f32⟩
  | 15 => ⟨S32x512x768, .f32⟩
  | 16 => ⟨S32x512x768, .f32⟩
  | 17 => ⟨S_, .f32⟩
  | 18 => ⟨S32x512, .f32⟩
  | 19 => ⟨S32x512x1, .f32⟩
  | 20 => ⟨S_, .f32⟩
  | 21 => ⟨S32x512x1, .f32⟩
  | 22 => ⟨S32x512x1, .f32⟩
  | 23 => ⟨S32x512x768, .f32⟩
  | 24 => ⟨S32x512x768, .f32⟩
  | 25 => ⟨S_, .f32⟩
  | 26 => ⟨S32x512x1, .f32⟩
  | 27 => ⟨S32x512x1, .f32⟩
  | 28 => ⟨S32x512x1, .f32⟩
  | 29 => ⟨S32x512x768, .f32⟩
  | 30 => ⟨S32x512x768, .f32⟩
  | 31 => ⟨S1x1x768, .f32⟩
  | 32 => ⟨S32x512x768, .f32⟩
  | 33 => ⟨S32x512x768, .f32⟩
  | 34 => ⟨S1x1x768, .f32⟩
  | 35 => ⟨S32x512x768, .f32⟩
  | 36 => ⟨S32x512x768, .f32⟩
  | 37 => ⟨S768x768, .f32⟩
  | 38 => ⟨S32x512x768, .f32⟩
  | 39 => ⟨S1x1x768, .f32⟩
  | 40 => ⟨S32x512x768, .f32⟩
  | 41 => ⟨S32x512x768, .f32⟩
  | 42 => ⟨S_, .f32⟩
  | 43 => ⟨S32x512x768, .f32⟩
  | 44 => ⟨S32x512x768, .f32⟩
  | 45 => ⟨S768x768, .f32⟩
  | 46 => ⟨S32x512x768, .f32⟩
  | 47 => ⟨S1x1x768, .f32⟩
  | 48 => ⟨S32x512x768, .f32⟩
  | 49 => ⟨S32x512x768, .f32⟩
  | 50 => ⟨S32x512x768, .f32⟩
  | 51 => ⟨S_, .f32⟩
  | 52 => ⟨S32x512, .f32⟩
  | 53 => ⟨S32x512x1, .f32⟩
  | 54 => ⟨S_, .f32⟩
  | 55 => ⟨S32x512x1, .f32⟩
  | 56 => ⟨S32x512x1, .f32⟩
  | 57 => ⟨S32x512x768, .f32⟩
  | 58 => ⟨S32x512x768, .f32⟩
  | 59 => ⟨S32x512x768, .f32⟩
  | 60 => ⟨S_, .f32⟩
  | 61 => ⟨S32x512, .f32⟩
  | 62 => ⟨S32x512x1, .f32⟩
  | 63 => ⟨S_, .f32⟩
  | 64 => ⟨S32x512x1, .f32⟩
  | 65 => ⟨S32x512x1, .f32⟩
  | 66 => ⟨S32x512x768, .f32⟩
  | 67 => ⟨S32x512x768, .f32⟩
  | 68 => ⟨S_, .f32⟩
  | 69 => ⟨S32x512x1, .f32⟩
  | 70 => ⟨S32x512x1, .f32⟩
  | 71 => ⟨S32x512x1, .f32⟩
  | 72 => ⟨S32x512x768, .f32⟩
  | 73 => ⟨S32x512x768, .f32⟩
  | 74 => ⟨S1x1x768, .f32⟩
  | 75 => ⟨S32x512x768, .f32⟩
  | 76 => ⟨S32x512x768, .f32⟩
  | 77 => ⟨S1x1x768, .f32⟩
  | 78 => ⟨S32x512x768, .f32⟩
  | 79 => ⟨S32x512x768, .f32⟩
  | 80 => ⟨S1x768x768, .f32⟩
  | 81 => ⟨S768x768, .f32⟩
  | 82 => ⟨S1x768x768, .f32⟩
  | 83 => ⟨S768x768, .f32⟩
  | 84 => ⟨S1x768x768, .f32⟩
  | 85 => ⟨S768x768, .f32⟩
  | 86 => ⟨S1x768, .f32⟩
  | 87 => ⟨S768, .f32⟩
  | 88 => ⟨S1x768, .f32⟩
  | 89 => ⟨S768, .f32⟩
  | 90 => ⟨S1x768x768, .f32⟩
  | 91 => ⟨S768x768, .f32⟩
  | 92 => ⟨S1x768, .f32⟩
  | 93 => ⟨S768, .f32⟩
  | 94 => ⟨S1x768x768, .f32⟩
  | 95 => ⟨S768x768, .f32⟩
  | 96 => ⟨S1x768, .f32⟩
  | 97 => ⟨S768, .f32⟩
  | 98 => ⟨S1x768, .f32⟩
  | 99 => ⟨S768, .f32⟩
  | 100 => ⟨S1x768, .f32⟩
  | 101 => ⟨S768, .f32⟩
  | 102 => ⟨S768x768, .f32⟩
  | 103 => ⟨S32x512x768, .f32⟩
  | 104 => ⟨S32x512x12x64, .f32⟩
  | 105 => ⟨S768x768, .f32⟩
  | 106 => ⟨S32x512x768, .f32⟩
  | 107 => ⟨S32x512x12x64, .f32⟩
  | 108 => ⟨S768x768, .f32⟩
  | 109 => ⟨S32x512x768, .f32⟩
  | 110 => ⟨S32x512x12x64, .f32⟩
  | 111 => ⟨S32x12x512x512, .f32⟩
  | 112 => ⟨S_, .f32⟩
  | 113 => ⟨S_, .f32⟩
  | 114 => ⟨S32x12x512x512, .f32⟩
  | 115 => ⟨S32x12x512x512, .f32⟩
  | 116 => ⟨S_, .f32⟩
  | 117 => ⟨S32x12x512, .f32⟩
  | 118 => ⟨S_, .f32⟩
  | 119 => ⟨S32x12x512, .f32⟩
  | 120 => ⟨S32x12x512, .f32⟩
  | 121 => ⟨S32x12x512x1, .f32⟩
  | 122 => ⟨S32x12x512x512, .f32⟩
  | 123 => ⟨S32x12x512x512, .f32⟩
  | 124 => ⟨S32x12x512x512, .f32⟩
  | 125 => ⟨S_, .f32⟩
  | 126 => ⟨S32x12x512, .f32⟩
  | 127 => ⟨S32x12x512x1, .f32⟩
  | _ => ⟨S32x512x768, .f32⟩

abbrev hbmTy0_3 (i : Nat) : BufTy := match i % 128 with
  | 0 => ⟨S32x12x512x512, .f32⟩
  | 1 => ⟨S32x12x512x512, .f32⟩
  | 2 => ⟨S32x12x64x512, .f32⟩
  | 3 => ⟨S32x512x12x64, .f32⟩
  | 4 => ⟨S32x512x768, .f32⟩
  | 5 => ⟨S32x512x768, .f32⟩
  | 6 => ⟨S_, .f32⟩
  | 7 => ⟨S32x512, .f32⟩
  | 8 => ⟨S32x512x1, .f32⟩
  | 9 => ⟨S_, .f32⟩
  | 10 => ⟨S32x512x1, .f32⟩
  | 11 => ⟨S32x512x1, .f32⟩
  | 12 => ⟨S32x512x768, .f32⟩
  | 13 => ⟨S32x512x768, .f32⟩
  | 14 => ⟨S32x512x768, .f32⟩
  | 15 => ⟨S_, .f32⟩
  | 16 => ⟨S32x512, .f32⟩
  | 17 => ⟨S32x512x1, .f32⟩
  | 18 => ⟨S_, .f32⟩
  | 19 => ⟨S32x512x1, .f32⟩
  | 20 => ⟨S32x512x1, .f32⟩
  | 21 => ⟨S32x512x768, .f32⟩
  | 22 => ⟨S32x512x768, .f32⟩
  | 23 => ⟨S_, .f32⟩
  | 24 => ⟨S32x512x1, .f32⟩
  | 25 => ⟨S32x512x1, .f32⟩
  | 26 => ⟨S32x512x1, .f32⟩
  | 27 => ⟨S32x512x768, .f32⟩
  | 28 => ⟨S32x512x768, .f32⟩
  | 29 => ⟨S1x1x768, .f32⟩
  | 30 => ⟨S32x512x768, .f32⟩
  | 31 => ⟨S32x512x768, .f32⟩
  | 32 => ⟨S1x1x768, .f32⟩
  | 33 => ⟨S32x512x768, .f32⟩
  | 34 => ⟨S32x512x768, .f32⟩
  | 35 => ⟨S768x768, .f32⟩
  | 36 => ⟨S32x512x768, .f32⟩
  | 37 => ⟨S1x1x768, .f32⟩
  | 38 => ⟨S32x512x768, .f32⟩
  | 39 => ⟨S32x512x768, .f32⟩
  | 40 => ⟨S_, .f32⟩
  | 41 => ⟨S32x512x768, .f32⟩
  | 42 => ⟨S32x512x768, .f32⟩
  | 43 => ⟨S768x768, .f32⟩
  | 44 => ⟨S32x512x768, .f32⟩
  | 45 => ⟨S1x1x768, .f32⟩
  | 46 => ⟨S32x512x768, .f32⟩
  | 47 => ⟨S32x512x768, .f32⟩
  | 48 => ⟨S32x512x768, .f32⟩
  | 49 => ⟨S_, .f32⟩
  | 50 => ⟨S32x512, .f32⟩
  | 51 => ⟨S32x512x1, .f32⟩
  | 52 => ⟨S_, .f32⟩
  | 53 => ⟨S32x512x1, .f32⟩
  | 54 => ⟨S32x512x1, .f32⟩
  | 55 => ⟨S32x512x768, .f32⟩
  | 56 => ⟨S32x512x768, .f32⟩
  | 57 => ⟨S32x512x768, .f32⟩
  | 58 => ⟨S_, .f32⟩
  | 59 => ⟨S32x512, .f32⟩
  | 60 => ⟨S32x512x1, .f32⟩
  | 61 => ⟨S_, .f32⟩
  | 62 => ⟨S32x512x1, .f32⟩
  | 63 => ⟨S32x512x1, .f32⟩
  | 64 => ⟨S32x512x768, .f32⟩
  | 65 => ⟨S32x512x768, .f32⟩
  | 66 => ⟨S_, .f32⟩
  | 67 => ⟨S32x512x1, .f32⟩
  | 68 => ⟨S32x512x1, .f32⟩
  | 69 => ⟨S32x512x1, .f32⟩
  | 70 => ⟨S32x512x768, .f32⟩
  | 71 => ⟨S32x512x768, .f32⟩
  | 72 => ⟨S1x1x768, .f32⟩
  | 73 => ⟨S32x512x768, .f32⟩
  | 74 => ⟨S32x512x768, .f32⟩
  | 75 => ⟨S1x1x768, .f32⟩
  | 76 => ⟨S32x512x768, .f32⟩
  | 77 => ⟨S32x512x768, .f32⟩
  | 78 => ⟨S1x768x768, .f32⟩
  | 79 => ⟨S768x768, .f32⟩
  | 80 => ⟨S1x768x768, .f32⟩
  | 81 => ⟨S768x768, .f32⟩
  | 82 => ⟨S1x768x768, .f32⟩
  | 83 => ⟨S768x768, .f32⟩
  | 84 => ⟨S1x768, .f32⟩
  | 85 => ⟨S768, .f32⟩
  | 86 => ⟨S1x768, .f32⟩
  | 87 => ⟨S768, .f32⟩
  | 88 => ⟨S1x768x768, .f32⟩
  | 89 => ⟨S768x768, .f32⟩
  | 90 => ⟨S1x768, .f32⟩
  | 91 => ⟨S768, .f32⟩
  | 92 => ⟨S1x768x768, .f32⟩
  | 93 => ⟨S768x768, .f32⟩
  | 94 => ⟨S1x768, .f32⟩
  | 95 => ⟨S768, .f32⟩
  | 96 => ⟨S1x768, .f32⟩
  | 97 => ⟨S768, .f32⟩
  | 98 => ⟨S1x768, .f32⟩
  | 99 => ⟨S768, .f32⟩
  | 100 => ⟨S768x768, .f32⟩
  | 101 => ⟨S32x512x768, .f32⟩
  | 102 => ⟨S32x512x12x64, .f32⟩
  | 103 => ⟨S768x768, .f32⟩
  | 104 => ⟨S32x512x768, .f32⟩
  | 105 => ⟨S32x512x12x64, .f32⟩
  | 106 => ⟨S768x768, .f32⟩
  | 107 => ⟨S32x512x768, .f32⟩
  | 108 => ⟨S32x512x12x64, .f32⟩
  | 109 => ⟨S32x12x512x512, .f32⟩
  | 110 => ⟨S_, .f32⟩
  | 111 => ⟨S_, .f32⟩
  | 112 => ⟨S32x12x512x512, .f32⟩
  | 113 => ⟨S32x12x512x512, .f32⟩
  | 114 => ⟨S_, .f32⟩
  | 115 => ⟨S32x12x512, .f32⟩
  | 116 => ⟨S_, .f32⟩
  | 117 => ⟨S32x12x512, .f32⟩
  | 118 => ⟨S32x12x512, .f32⟩
  | 119 => ⟨S32x12x512x1, .f32⟩
  | 120 => ⟨S32x12x512x512, .f32⟩
  | 121 => ⟨S32x12x512x512, .f32⟩
  | 122 => ⟨S32x12x512x512, .f32⟩
  | 123 => ⟨S_, .f32⟩
  | 124 => ⟨S32x12x512, .f32⟩
  | 125 => ⟨S32x12x512x1, .f32⟩
  | 126 => ⟨S32x12x512x512, .f32⟩
  | 127 => ⟨S32x12x512x512, .f32⟩
  | _ => ⟨S32x512x768, .f32⟩

abbrev hbmTy0_4 (i : Nat) : BufTy := match i % 128 with
  | 0 => ⟨S32x12x64x512, .f32⟩
  | 1 => ⟨S32x512x12x64, .f32⟩
  | 2 => ⟨S32x512x768, .f32⟩
  | 3 => ⟨S32x512x768, .f32⟩
  | 4 => ⟨S_, .f32⟩
  | 5 => ⟨S32x512, .f32⟩
  | 6 => ⟨S32x512x1, .f32⟩
  | 7 => ⟨S_, .f32⟩
  | 8 => ⟨S32x512x1, .f32⟩
  | 9 => ⟨S32x512x1, .f32⟩
  | 10 => ⟨S32x512x768, .f32⟩
  | 11 => ⟨S32x512x768, .f32⟩
  | 12 => ⟨S32x512x768, .f32⟩
  | 13 => ⟨S_, .f32⟩
  | 14 => ⟨S32x512, .f32⟩
  | 15 => ⟨S32x512x1, .f32⟩
  | 16 => ⟨S_, .f32⟩
  | 17 => ⟨S32x512x1, .f32⟩
  | 18 => ⟨S32x512x1, .f32⟩
  | 19 => ⟨S32x512x768, .f32⟩
  | 20 => ⟨S32x512x768, .f32⟩
  | 21 => ⟨S_, .f32⟩
  | 22 => ⟨S32x512x1, .f32⟩
  | 23 => ⟨S32x512x1, .f32⟩
  | 24 => ⟨S32x512x1, .f32⟩
  | 25 => ⟨S32x512x768, .f32⟩
  | 26 => ⟨S32x512x768, .f32⟩
  | 27 => ⟨S1x1x768, .f32⟩
  | 28 => ⟨S32x512x768, .f32⟩
  | 29 => ⟨S32x512x768, .f32⟩
  | 30 => ⟨S1x1x768, .f32⟩
  | 31 => ⟨S32x512x768, .f32⟩
  | 32 => ⟨S32x512x768, .f32⟩
  | 33 => ⟨S768x768, .f32⟩
  | 34 => ⟨S32x512x768, .f32⟩
  | 35 => ⟨S1x1x768, .f32⟩
  | 36 => ⟨S32x512x768, .f32⟩
  | 37 => ⟨S32x512x768, .f32⟩
  | 38 => ⟨S_, .f32⟩
  | 39 => ⟨S32x512x768, .f32⟩
  | 40 => ⟨S32x512x768, .f32⟩
  | 41 => ⟨S768x768, .f32⟩
  | 42 => ⟨S32x512x768, .f32⟩
  | 43 => ⟨S1x1x768, .f32⟩
  | 44 => ⟨S32x512x768, .f32⟩
  | 45 => ⟨S32x512x768, .f32⟩
  | 46 => ⟨S32x512x768, .f32⟩
  | 47 => ⟨S_, .f32⟩
  | 48 => ⟨S32x512, .f32⟩
  | 49 => ⟨S32x512x1, .f32⟩
  | 50 => ⟨S_, .f32⟩
  | 51 => ⟨S32x512x1, .f32⟩
  | 52 => ⟨S32x512x1, .f32⟩
  | 53 => ⟨S32x512x768, .f32⟩
  | 54 => ⟨S32x512x768, .f32⟩
  | 55 => ⟨S32x512x768, .f32⟩
  | 56 => ⟨S_, .f32⟩
  | 57 => ⟨S32x512, .f32⟩
  | 58 => ⟨S32x512x1, .f32⟩
  | 59 => ⟨S_, .f32⟩
  | 60 => ⟨S32x512x1, .f32⟩
  | 61 => ⟨S32x512x1, .f32⟩
  | 62 => ⟨S32x512x768, .f32⟩
  | 63 => ⟨S32x512x768, .f32⟩
  | 64 => ⟨S_, .f32⟩
  | 65 => ⟨S32x512x1, .f32⟩
  | 66 => ⟨S32x512x1, .f32⟩
  | 67 => ⟨S32x512x1, .f32⟩
  | 68 => ⟨S32x512x768, .f32⟩
  | 69 => ⟨S32x512x768, .f32⟩
  | 70 => ⟨S1x1x768, .f32⟩
  | 71 => ⟨S32x512x768, .f32⟩
  | 72 => ⟨S32x512x768, .f32⟩
  | 73 => ⟨S1x1x768, .f32⟩
  | 74 => ⟨S32x512x768, .f32⟩
  | 75 => ⟨S32x512x768, .f32⟩
  | 76 => ⟨S768x768, .f32⟩
  | 77 => ⟨S32x512x768, .f32⟩
  | 78 => ⟨S1x1x768, .f32⟩
  | 79 => ⟨S32x512x768, .f32⟩
  | 80 => ⟨S32x512x768, .f32⟩
  | 81 => ⟨S32x512x768, .f32⟩
  | 82 => ⟨S768x1, .f32⟩
  | 83 => ⟨S32x512x1, .f32⟩
  | 84 => ⟨S_, .f32⟩
  | 85 => ⟨S32x1, .f32⟩
  | 86 => ⟨S_, .f32⟩
  | 87 => ⟨S32x1, .f32⟩
  | 88 => ⟨S32x1, .f32⟩
  | 89 => ⟨S32x1x1, .f32⟩
  | 90 => ⟨S32x512x1, .f32⟩
  | 91 => ⟨S32x512x1, .f32⟩
  | 92 => ⟨S32x512x1, .f32⟩
  | 93 => ⟨S_, .f32⟩
  | 94 => ⟨S32x1, .f32⟩
  | 95 => ⟨S32x1x1, .f32⟩
  | 96 => ⟨S32x512x1, .f32⟩
  | 97 => ⟨S32x512x1, .f32⟩
  | 98 => ⟨S_, .f32⟩
  | 99 => ⟨S32x512, .f32⟩
  | 100 => ⟨S32x768, .f32⟩
  | 101 => ⟨S32x784, .f32⟩
  | 102 => ⟨S784x256, .f32⟩
  | 103 => ⟨S32x256, .f32⟩
  | 104 => ⟨S32x256, .f32⟩
  | 105 => ⟨S32x1x256, .f32⟩
  | _ => ⟨S32x512x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x512x768, .f32⟩

abbrev bufTy : (tb : Table) → Fin (tcTables nBuf tb) → BufTy
  | .hbm, ⟨i, _⟩ => hbmTy i
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v3 : Ref sig .tc := ⟨.hbm, 37, rfl⟩
abbrev main_c_0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst : Ref sig .tc := ⟨.hbm, 42, rfl⟩
abbrev main_v7 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_c_2 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v15 : Ref sig .tc := ⟨.hbm, 73, rfl⟩
abbrev main_c_3 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_call2_v0 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_4 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_5 : Ref sig .tc := ⟨.hbm, 120, rfl⟩
abbrev main_v59 : Ref sig .tc := ⟨.hbm, 121, rfl⟩
abbrev main_cst_6 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_cst_7 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_cst_8 : Ref sig .tc := ⟨.hbm, 138, rfl⟩
abbrev main_v74 : Ref sig .tc := ⟨.hbm, 139, rfl⟩
abbrev main_v75 : Ref sig .tc := ⟨.hbm, 140, rfl⟩
abbrev main_cst_9 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_cst_10 : Ref sig .tc := ⟨.hbm, 147, rfl⟩
abbrev main_v81 : Ref sig .tc := ⟨.hbm, 148, rfl⟩
abbrev main_v82 : Ref sig .tc := ⟨.hbm, 149, rfl⟩
abbrev main_cst_11 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_cst_12 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_call3_cst : Ref sig .tc := ⟨.hbm, 172, rfl⟩
abbrev main_call3_v0 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_cst_13 : Ref sig .tc := ⟨.hbm, 181, rfl⟩
abbrev main_v110 : Ref sig .tc := ⟨.hbm, 182, rfl⟩
abbrev main_v111 : Ref sig .tc := ⟨.hbm, 183, rfl⟩
abbrev main_cst_14 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_15 : Ref sig .tc := ⟨.hbm, 190, rfl⟩
abbrev main_v117 : Ref sig .tc := ⟨.hbm, 191, rfl⟩
abbrev main_v118 : Ref sig .tc := ⟨.hbm, 192, rfl⟩
abbrev main_cst_16 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_cst_17 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_cst_18 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_cst_19 : Ref sig .tc := ⟨.hbm, 246, rfl⟩
abbrev main_v169 : Ref sig .tc := ⟨.hbm, 247, rfl⟩
abbrev main_cst_20 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_cst_21 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_cst_22 : Ref sig .tc := ⟨.hbm, 264, rfl⟩
abbrev main_v184 : Ref sig .tc := ⟨.hbm, 265, rfl⟩
abbrev main_v185 : Ref sig .tc := ⟨.hbm, 266, rfl⟩
abbrev main_cst_23 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_cst_24 : Ref sig .tc := ⟨.hbm, 273, rfl⟩
abbrev main_v191 : Ref sig .tc := ⟨.hbm, 274, rfl⟩
abbrev main_v192 : Ref sig .tc := ⟨.hbm, 275, rfl⟩
abbrev main_cst_25 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_cst_26 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_call4_cst : Ref sig .tc := ⟨.hbm, 298, rfl⟩
abbrev main_call4_v0 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_cst_27 : Ref sig .tc := ⟨.hbm, 307, rfl⟩
abbrev main_v220 : Ref sig .tc := ⟨.hbm, 308, rfl⟩
abbrev main_v221 : Ref sig .tc := ⟨.hbm, 309, rfl⟩
abbrev main_cst_28 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_cst_29 : Ref sig .tc := ⟨.hbm, 316, rfl⟩
abbrev main_v227 : Ref sig .tc := ⟨.hbm, 317, rfl⟩
abbrev main_v228 : Ref sig .tc := ⟨.hbm, 318, rfl⟩
abbrev main_cst_30 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_cst_31 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_cst_32 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_cst_33 : Ref sig .tc := ⟨.hbm, 372, rfl⟩
abbrev main_v279 : Ref sig .tc := ⟨.hbm, 373, rfl⟩
abbrev main_cst_34 : Ref sig .tc := ⟨.hbm, 374, rfl⟩
abbrev main_v280 : Ref sig .tc := ⟨.hbm, 375, rfl⟩
abbrev main_v281 : Ref sig .tc := ⟨.hbm, 376, rfl⟩
abbrev main_v282 : Ref sig .tc := ⟨.hbm, 377, rfl⟩
abbrev main_v283 : Ref sig .tc := ⟨.hbm, 378, rfl⟩
abbrev main_v284 : Ref sig .tc := ⟨.hbm, 379, rfl⟩
abbrev main_v285 : Ref sig .tc := ⟨.hbm, 380, rfl⟩
abbrev main_cst_35 : Ref sig .tc := ⟨.hbm, 381, rfl⟩
abbrev main_v286 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_v291 : Ref sig .tc := ⟨.hbm, 387, rfl⟩
abbrev main_v292 : Ref sig .tc := ⟨.hbm, 388, rfl⟩
abbrev main_v293 : Ref sig .tc := ⟨.hbm, 389, rfl⟩
abbrev main_cst_36 : Ref sig .tc := ⟨.hbm, 390, rfl⟩
abbrev main_v294 : Ref sig .tc := ⟨.hbm, 391, rfl⟩
abbrev main_v295 : Ref sig .tc := ⟨.hbm, 392, rfl⟩
abbrev main_cst_37 : Ref sig .tc := ⟨.hbm, 393, rfl⟩
abbrev main_v296 : Ref sig .tc := ⟨.hbm, 394, rfl⟩
abbrev main_v297 : Ref sig .tc := ⟨.hbm, 395, rfl⟩
abbrev main_v298 : Ref sig .tc := ⟨.hbm, 396, rfl⟩
abbrev main_v299 : Ref sig .tc := ⟨.hbm, 397, rfl⟩
abbrev main_v300 : Ref sig .tc := ⟨.hbm, 398, rfl⟩
abbrev main_cst_38 : Ref sig .tc := ⟨.hbm, 399, rfl⟩
abbrev main_v301 : Ref sig .tc := ⟨.hbm, 400, rfl⟩
abbrev main_v302 : Ref sig .tc := ⟨.hbm, 401, rfl⟩
abbrev main_cst_39 : Ref sig .tc := ⟨.hbm, 402, rfl⟩
abbrev main_v303 : Ref sig .tc := ⟨.hbm, 403, rfl⟩
abbrev main_v304 : Ref sig .tc := ⟨.hbm, 404, rfl⟩
abbrev main_v305 : Ref sig .tc := ⟨.hbm, 405, rfl⟩
abbrev main_v306 : Ref sig .tc := ⟨.hbm, 406, rfl⟩
abbrev main_cst_40 : Ref sig .tc := ⟨.hbm, 407, rfl⟩
abbrev main_v307 : Ref sig .tc := ⟨.hbm, 408, rfl⟩
abbrev main_v308 : Ref sig .tc := ⟨.hbm, 409, rfl⟩
abbrev main_v309 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_v318 : Ref sig .tc := ⟨.hbm, 419, rfl⟩
abbrev main_v319 : Ref sig .tc := ⟨.hbm, 420, rfl⟩
abbrev main_v320 : Ref sig .tc := ⟨.hbm, 421, rfl⟩
abbrev main_v321 : Ref sig .tc := ⟨.hbm, 422, rfl⟩
abbrev main_v322 : Ref sig .tc := ⟨.hbm, 423, rfl⟩
abbrev main_call5_cst : Ref sig .tc := ⟨.hbm, 424, rfl⟩
abbrev main_call5_v0 : Ref sig .tc := ⟨.hbm, 425, rfl⟩
abbrev main_v323 : Ref sig .tc := ⟨.hbm, 426, rfl⟩
abbrev main_v324 : Ref sig .tc := ⟨.hbm, 427, rfl⟩
abbrev main_v325 : Ref sig .tc := ⟨.hbm, 428, rfl⟩
abbrev main_v326 : Ref sig .tc := ⟨.hbm, 429, rfl⟩
abbrev main_v327 : Ref sig .tc := ⟨.hbm, 430, rfl⟩
abbrev main_v328 : Ref sig .tc := ⟨.hbm, 431, rfl⟩
abbrev main_v329 : Ref sig .tc := ⟨.hbm, 432, rfl⟩
abbrev main_cst_41 : Ref sig .tc := ⟨.hbm, 433, rfl⟩
abbrev main_v330 : Ref sig .tc := ⟨.hbm, 434, rfl⟩
abbrev main_v331 : Ref sig .tc := ⟨.hbm, 435, rfl⟩
abbrev main_cst_42 : Ref sig .tc := ⟨.hbm, 436, rfl⟩
abbrev main_v332 : Ref sig .tc := ⟨.hbm, 437, rfl⟩
abbrev main_v333 : Ref sig .tc := ⟨.hbm, 438, rfl⟩
abbrev main_v334 : Ref sig .tc := ⟨.hbm, 439, rfl⟩
abbrev main_v335 : Ref sig .tc := ⟨.hbm, 440, rfl⟩
abbrev main_v336 : Ref sig .tc := ⟨.hbm, 441, rfl⟩
abbrev main_cst_43 : Ref sig .tc := ⟨.hbm, 442, rfl⟩
abbrev main_v337 : Ref sig .tc := ⟨.hbm, 443, rfl⟩
abbrev main_v338 : Ref sig .tc := ⟨.hbm, 444, rfl⟩
abbrev main_cst_44 : Ref sig .tc := ⟨.hbm, 445, rfl⟩
abbrev main_v339 : Ref sig .tc := ⟨.hbm, 446, rfl⟩
abbrev main_v340 : Ref sig .tc := ⟨.hbm, 447, rfl⟩
abbrev main_v341 : Ref sig .tc := ⟨.hbm, 448, rfl⟩
abbrev main_v342 : Ref sig .tc := ⟨.hbm, 449, rfl⟩
abbrev main_cst_45 : Ref sig .tc := ⟨.hbm, 450, rfl⟩
abbrev main_v343 : Ref sig .tc := ⟨.hbm, 451, rfl⟩
abbrev main_v344 : Ref sig .tc := ⟨.hbm, 452, rfl⟩
abbrev main_v345 : Ref sig .tc := ⟨.hbm, 453, rfl⟩
abbrev main_v346 : Ref sig .tc := ⟨.hbm, 454, rfl⟩
abbrev main_v347 : Ref sig .tc := ⟨.hbm, 455, rfl⟩
abbrev main_v348 : Ref sig .tc := ⟨.hbm, 456, rfl⟩
abbrev main_v349 : Ref sig .tc := ⟨.hbm, 457, rfl⟩
abbrev main_v350 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_v355 : Ref sig .tc := ⟨.hbm, 463, rfl⟩
abbrev main_v356 : Ref sig .tc := ⟨.hbm, 464, rfl⟩
abbrev main_v357 : Ref sig .tc := ⟨.hbm, 465, rfl⟩
abbrev main_v358 : Ref sig .tc := ⟨.hbm, 466, rfl⟩
abbrev main_v359 : Ref sig .tc := ⟨.hbm, 467, rfl⟩
abbrev main_v360 : Ref sig .tc := ⟨.hbm, 468, rfl⟩
abbrev main_v361 : Ref sig .tc := ⟨.hbm, 469, rfl⟩
abbrev main_v362 : Ref sig .tc := ⟨.hbm, 470, rfl⟩
abbrev main_v363 : Ref sig .tc := ⟨.hbm, 471, rfl⟩
abbrev main_v364 : Ref sig .tc := ⟨.hbm, 472, rfl⟩
abbrev main_v365 : Ref sig .tc := ⟨.hbm, 473, rfl⟩
abbrev main_v366 : Ref sig .tc := ⟨.hbm, 474, rfl⟩
abbrev main_v367 : Ref sig .tc := ⟨.hbm, 475, rfl⟩
abbrev main_v368 : Ref sig .tc := ⟨.hbm, 476, rfl⟩
abbrev main_v369 : Ref sig .tc := ⟨.hbm, 477, rfl⟩
abbrev main_v370 : Ref sig .tc := ⟨.hbm, 478, rfl⟩
abbrev main_v371 : Ref sig .tc := ⟨.hbm, 479, rfl⟩
abbrev main_v372 : Ref sig .tc := ⟨.hbm, 480, rfl⟩
abbrev main_v373 : Ref sig .tc := ⟨.hbm, 481, rfl⟩
abbrev main_v374 : Ref sig .tc := ⟨.hbm, 482, rfl⟩
abbrev main_v375 : Ref sig .tc := ⟨.hbm, 483, rfl⟩
abbrev main_v376 : Ref sig .tc := ⟨.hbm, 484, rfl⟩
abbrev main_v377 : Ref sig .tc := ⟨.hbm, 485, rfl⟩
abbrev main_v378 : Ref sig .tc := ⟨.hbm, 486, rfl⟩
abbrev main_v379 : Ref sig .tc := ⟨.hbm, 487, rfl⟩
abbrev main_v380 : Ref sig .tc := ⟨.hbm, 488, rfl⟩
abbrev main_v381 : Ref sig .tc := ⟨.hbm, 489, rfl⟩
abbrev main_v382 : Ref sig .tc := ⟨.hbm, 490, rfl⟩
abbrev main_v383 : Ref sig .tc := ⟨.hbm, 491, rfl⟩
abbrev main_v384 : Ref sig .tc := ⟨.hbm, 492, rfl⟩
abbrev main_v385 : Ref sig .tc := ⟨.hbm, 493, rfl⟩
abbrev main_cst_46 : Ref sig .tc := ⟨.hbm, 494, rfl⟩
abbrev main_v386 : Ref sig .tc := ⟨.hbm, 495, rfl⟩
abbrev main_v387 : Ref sig .tc := ⟨.hbm, 496, rfl⟩
abbrev main_v388 : Ref sig .tc := ⟨.hbm, 497, rfl⟩
abbrev main_cst_47 : Ref sig .tc := ⟨.hbm, 498, rfl⟩
abbrev main_v389 : Ref sig .tc := ⟨.hbm, 499, rfl⟩
abbrev main_cst_48 : Ref sig .tc := ⟨.hbm, 500, rfl⟩
abbrev main_v390 : Ref sig .tc := ⟨.hbm, 501, rfl⟩
abbrev main_v391 : Ref sig .tc := ⟨.hbm, 502, rfl⟩
abbrev main_v392 : Ref sig .tc := ⟨.hbm, 503, rfl⟩
abbrev main_v393 : Ref sig .tc := ⟨.hbm, 504, rfl⟩
abbrev main_v394 : Ref sig .tc := ⟨.hbm, 505, rfl⟩
abbrev main_v395 : Ref sig .tc := ⟨.hbm, 506, rfl⟩
abbrev main_cst_49 : Ref sig .tc := ⟨.hbm, 507, rfl⟩
abbrev main_v396 : Ref sig .tc := ⟨.hbm, 508, rfl⟩
abbrev main_v397 : Ref sig .tc := ⟨.hbm, 509, rfl⟩
abbrev main_v398 : Ref sig .tc := ⟨.hbm, 510, rfl⟩
abbrev main_v399 : Ref sig .tc := ⟨.hbm, 511, rfl⟩
abbrev main_v400 : Ref sig .tc := ⟨.hbm, 512, rfl⟩
abbrev main_v401 : Ref sig .tc := ⟨.hbm, 513, rfl⟩
abbrev main_v402 : Ref sig .tc := ⟨.hbm, 514, rfl⟩
abbrev main_v403 : Ref sig .tc := ⟨.hbm, 515, rfl⟩
abbrev main_cst_50 : Ref sig .tc := ⟨.hbm, 516, rfl⟩
abbrev main_v404 : Ref sig .tc := ⟨.hbm, 517, rfl⟩
abbrev main_v405 : Ref sig .tc := ⟨.hbm, 518, rfl⟩
abbrev main_cst_51 : Ref sig .tc := ⟨.hbm, 519, rfl⟩
abbrev main_v406 : Ref sig .tc := ⟨.hbm, 520, rfl⟩
abbrev main_v407 : Ref sig .tc := ⟨.hbm, 521, rfl⟩
abbrev main_v408 : Ref sig .tc := ⟨.hbm, 522, rfl⟩
abbrev main_v409 : Ref sig .tc := ⟨.hbm, 523, rfl⟩
abbrev main_v410 : Ref sig .tc := ⟨.hbm, 524, rfl⟩
abbrev main_cst_52 : Ref sig .tc := ⟨.hbm, 525, rfl⟩
abbrev main_v411 : Ref sig .tc := ⟨.hbm, 526, rfl⟩
abbrev main_v412 : Ref sig .tc := ⟨.hbm, 527, rfl⟩
abbrev main_cst_53 : Ref sig .tc := ⟨.hbm, 528, rfl⟩
abbrev main_v413 : Ref sig .tc := ⟨.hbm, 529, rfl⟩
abbrev main_v414 : Ref sig .tc := ⟨.hbm, 530, rfl⟩
abbrev main_v415 : Ref sig .tc := ⟨.hbm, 531, rfl⟩
abbrev main_v416 : Ref sig .tc := ⟨.hbm, 532, rfl⟩
abbrev main_cst_54 : Ref sig .tc := ⟨.hbm, 533, rfl⟩
abbrev main_v417 : Ref sig .tc := ⟨.hbm, 534, rfl⟩
abbrev main_v418 : Ref sig .tc := ⟨.hbm, 535, rfl⟩
abbrev main_v419 : Ref sig .tc := ⟨.hbm, 536, rfl⟩
abbrev main_v420 : Ref sig .tc := ⟨.hbm, 537, rfl⟩
abbrev main_v421 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_v426 : Ref sig .tc := ⟨.hbm, 543, rfl⟩
abbrev main_v427 : Ref sig .tc := ⟨.hbm, 544, rfl⟩
abbrev main_v428 : Ref sig .tc := ⟨.hbm, 545, rfl⟩
abbrev main_v429 : Ref sig .tc := ⟨.hbm, 546, rfl⟩
abbrev main_v430 : Ref sig .tc := ⟨.hbm, 547, rfl⟩
abbrev main_v431 : Ref sig .tc := ⟨.hbm, 548, rfl⟩
abbrev main_v432 : Ref sig .tc := ⟨.hbm, 549, rfl⟩
abbrev main_call6_cst : Ref sig .tc := ⟨.hbm, 550, rfl⟩
abbrev main_call6_v0 : Ref sig .tc := ⟨.hbm, 551, rfl⟩
abbrev main_v433 : Ref sig .tc := ⟨.hbm, 552, rfl⟩
abbrev main_v434 : Ref sig .tc := ⟨.hbm, 553, rfl⟩
abbrev main_v435 : Ref sig .tc := ⟨.hbm, 554, rfl⟩
abbrev main_v436 : Ref sig .tc := ⟨.hbm, 555, rfl⟩
abbrev main_v437 : Ref sig .tc := ⟨.hbm, 556, rfl⟩
abbrev main_v438 : Ref sig .tc := ⟨.hbm, 557, rfl⟩
abbrev main_v439 : Ref sig .tc := ⟨.hbm, 558, rfl⟩
abbrev main_cst_55 : Ref sig .tc := ⟨.hbm, 559, rfl⟩
abbrev main_v440 : Ref sig .tc := ⟨.hbm, 560, rfl⟩
abbrev main_v441 : Ref sig .tc := ⟨.hbm, 561, rfl⟩
abbrev main_cst_56 : Ref sig .tc := ⟨.hbm, 562, rfl⟩
abbrev main_v442 : Ref sig .tc := ⟨.hbm, 563, rfl⟩
abbrev main_v443 : Ref sig .tc := ⟨.hbm, 564, rfl⟩
abbrev main_v444 : Ref sig .tc := ⟨.hbm, 565, rfl⟩
abbrev main_v445 : Ref sig .tc := ⟨.hbm, 566, rfl⟩
abbrev main_v446 : Ref sig .tc := ⟨.hbm, 567, rfl⟩
abbrev main_cst_57 : Ref sig .tc := ⟨.hbm, 568, rfl⟩
abbrev main_v447 : Ref sig .tc := ⟨.hbm, 569, rfl⟩
abbrev main_v448 : Ref sig .tc := ⟨.hbm, 570, rfl⟩
abbrev main_cst_58 : Ref sig .tc := ⟨.hbm, 571, rfl⟩
abbrev main_v449 : Ref sig .tc := ⟨.hbm, 572, rfl⟩
abbrev main_v450 : Ref sig .tc := ⟨.hbm, 573, rfl⟩
abbrev main_v451 : Ref sig .tc := ⟨.hbm, 574, rfl⟩
abbrev main_v452 : Ref sig .tc := ⟨.hbm, 575, rfl⟩
abbrev main_cst_59 : Ref sig .tc := ⟨.hbm, 576, rfl⟩
abbrev main_v453 : Ref sig .tc := ⟨.hbm, 577, rfl⟩
abbrev main_v454 : Ref sig .tc := ⟨.hbm, 578, rfl⟩
abbrev main_v455 : Ref sig .tc := ⟨.hbm, 579, rfl⟩
abbrev main_v456 : Ref sig .tc := ⟨.hbm, 580, rfl⟩
abbrev main_v457 : Ref sig .tc := ⟨.hbm, 581, rfl⟩
abbrev main_v458 : Ref sig .tc := ⟨.hbm, 582, rfl⟩
abbrev main_v459 : Ref sig .tc := ⟨.hbm, 583, rfl⟩
abbrev main_v460 : Ref sig .tc := ⟨.hbm, 584, rfl⟩
abbrev main_v461 : Ref sig .tc := ⟨.hbm, 585, rfl⟩
abbrev main_v462 : Ref sig .tc := ⟨.hbm, 586, rfl⟩
abbrev main_v463 : Ref sig .tc := ⟨.hbm, 587, rfl⟩
abbrev main_v464 : Ref sig .tc := ⟨.hbm, 588, rfl⟩
abbrev main_v465 : Ref sig .tc := ⟨.hbm, 589, rfl⟩
abbrev main_v466 : Ref sig .tc := ⟨.hbm, 590, rfl⟩
abbrev main_v467 : Ref sig .tc := ⟨.hbm, 591, rfl⟩
abbrev main_v468 : Ref sig .tc := ⟨.hbm, 592, rfl⟩
abbrev main_v469 : Ref sig .tc := ⟨.hbm, 593, rfl⟩
abbrev main_v470 : Ref sig .tc := ⟨.hbm, 594, rfl⟩
abbrev main_v471 : Ref sig .tc := ⟨.hbm, 595, rfl⟩
abbrev main_cst_60 : Ref sig .tc := ⟨.hbm, 596, rfl⟩
abbrev main_v472 : Ref sig .tc := ⟨.hbm, 597, rfl⟩
abbrev main_cst_61 : Ref sig .tc := ⟨.hbm, 598, rfl⟩
abbrev main_v473 : Ref sig .tc := ⟨.hbm, 599, rfl⟩
abbrev main_v474 : Ref sig .tc := ⟨.hbm, 600, rfl⟩
abbrev main_v475 : Ref sig .tc := ⟨.hbm, 601, rfl⟩
abbrev main_v476 : Ref sig .tc := ⟨.hbm, 602, rfl⟩
abbrev main_v477 : Ref sig .tc := ⟨.hbm, 603, rfl⟩
abbrev main_v478 : Ref sig .tc := ⟨.hbm, 604, rfl⟩
abbrev main_cst_62 : Ref sig .tc := ⟨.hbm, 605, rfl⟩
abbrev main_v479 : Ref sig .tc := ⟨.hbm, 606, rfl⟩
abbrev main_v480 : Ref sig .tc := ⟨.hbm, 607, rfl⟩
abbrev main_v481 : Ref sig .tc := ⟨.hbm, 608, rfl⟩
abbrev main_v482 : Ref sig .tc := ⟨.hbm, 609, rfl⟩
abbrev main_cst_63 : Ref sig .tc := ⟨.hbm, 610, rfl⟩
abbrev main_v483 : Ref sig .tc := ⟨.hbm, 611, rfl⟩
abbrev main_v484 : Ref sig .tc := ⟨.hbm, 612, rfl⟩
abbrev main_v485 : Ref sig .tc := ⟨.hbm, 613, rfl⟩
abbrev main_v486 : Ref sig .tc := ⟨.hbm, 614, rfl⟩
abbrev main_v487 : Ref sig .tc := ⟨.hbm, 615, rfl⟩
abbrev main_v488 : Ref sig .tc := ⟨.hbm, 616, rfl⟩
abbrev main_v489 : Ref sig .tc := ⟨.hbm, 617, rfl⟩

abbrev nD : Nat := 1
abbrev τ : Topo := Topo.v7x

variable {F : FTy → Type} [FloatOps F]
-- ==== Proof.Enc.Spec.lean ====
module

public import Idealize.ShloMosaic.Lib.Pointwise

/-!
The encoder written out on plain index functions over the extended reals: one row's product with a weight
matrix, the normalisation of a row, the attention of one head in the kernel's form and in the textbook's form,
one layer of the encoder, and the pooling that closes the network.
-/

@[expose] public section

noncomputable section

namespace Cert.Enc

open Idealize.ShloMosaic
open scoped BigOperators

/-- The width of the model, as the programs' literal. -/
def cD : EReal := Ideal.ofBits .f32 0x44400000#32
/-- The guard added to a variance, as the programs' literal. -/
def cEps : EReal := Ideal.ofBits .f32 0x3727C5AC#32
/-- The width of one head, as the reference's literal. -/
def cHd : EReal := Ideal.ofBits .f32 0x42800000#32
/-- Minus infinity, as the programs' literal. -/
def cBot : EReal := Ideal.ofBits .f32 0xFF800000#32
/-- The kernel's score factor: the base-two logarithm of e over the square root of the head's width. -/
def cSc : EReal := (((Real.log 2)⁻¹ * (1 / 8) : ℝ) : EReal)

/-- One sequence: 512 rows of 768 numbers. -/
abbrev Seq := Fin 512 → Fin 768 → EReal
/-- One square weight matrix. -/
abbrev Wt := Fin 768 → Fin 768 → EReal

/-- A row times the transpose of a weight matrix. -/
def proj (x : Fin 768 → EReal) (W : Wt) (o : Fin 768) : EReal := ∑ i, x i * W o i

/-- The mean of a row. -/
def mean (u : Fin 768 → EReal) : EReal := Ideal.div (∑ j, u j) cD

/-- A row less its mean. -/
def dev (u : Fin 768 → EReal) (o : Fin 768) : EReal := u o - mean u

/-- A row normalised to mean zero and variance one. -/
def lnRow (u : Fin 768 → EReal) (o : Fin 768) : EReal :=
  dev u o * Ideal.rsqrt (mean (fun j => dev u j * dev u j) + cEps)

/-- The column `d` of the head that column `o` belongs to. -/
def hcol (o : Fin 768) (d : Fin 64) : Fin 768 := ⟨64 * (o.val / 64) + d.val, by have := o.isLt; omega⟩

/-- The product of a query row and a key row over one head's columns. -/
def score (Q K : Seq) (o : Fin 768) (s t : Fin 512) : EReal := ∑ d, Q s (hcol o d) * K t (hcol o d)

/-- Weights by powers of two, the sum of the weighted values taken first and then scaled by the reciprocal
of the weights' sum. -/
def smK {n : ℕ} (a v : Fin n → EReal) : EReal :=
  (∑ t, Ideal.exp2 (a t * cSc) * v t) * Ideal.div 1 (∑ t, Ideal.exp2 (a t * cSc))

/-- The greatest of finitely many scores, from minus infinity. -/
def top {n : ℕ} (a : Fin n → EReal) : EReal := max cBot (Finset.univ.fold max cBot a)

/-- The textbook softmax of one score among finitely many. -/
def soft {n : ℕ} (a : Fin n → EReal) (t : Fin n) : EReal :=
  Ideal.div (Ideal.exp (a t - top a)) (∑ t', Ideal.exp (a t' - top a))

/-- Values weighted by the textbook softmax of the scores over the square root of the head's width. -/
def smR {n : ℕ} (a v : Fin n → EReal) : EReal :=
  ∑ t, v t * soft (fun t' => Ideal.div (a t') (Ideal.sqrt cHd)) t

/-- One layer, from the attention output `A` of its input `X`: residual, normalisation, the two-matrix network
with its residual and normalisation. -/
def tail (A X : Seq) (W1 W2 : Wt) : Seq := fun s =>
  let y := lnRow fun o => X s o + A s o
  lnRow fun o => y o + proj (fun i => max (proj y W1 i) 0) W2 o

/-- The kernel's attention of a sequence. -/
def attK (X : Seq) (Wq Wk Wv : Wt) : Seq := fun s o =>
  smK (score (fun r => proj (X r) Wq) (fun r => proj (X r) Wk) o s) (fun t => proj (X t) Wv o)

/-- The textbook attention of a sequence. -/
def attR (X : Seq) (Wq Wk Wv : Wt) : Seq := fun s o =>
  smR (score (fun r => proj (X r) Wq) (fun r => proj (X r) Wk) o s) (fun t => proj (X t) Wv o)

/-- One layer as the kernel computes it. -/
def layerK (X : Seq) (Wq Wk Wv W1 W2 : Wt) : Seq := tail (attK X Wq Wk Wv) X W1 W2

/-- One layer as the textbook states it. -/
def layerR (X : Seq) (Wq Wk Wv W1 W2 : Wt) : Seq := tail (attR X Wq Wk Wv) X W1 W2

/-- The pooling scores of a sequence. -/
def pscore (T : Seq) (g : Fin 768 → EReal) (s : Fin 512) : EReal := ∑ j, g j * T s j

/-- A sequence pooled with the softmax of its scores, as the kernel computes it: the reciprocal of the weights'
sum is taken once, and each weight is multiplied by it. -/
def poolK (T : Seq) (g : Fin 768 → EReal) (j : Fin 768) : EReal :=
  ∑ s, Ideal.exp (pscore T g s - Finset.univ.fold max cBot (pscore T g))
      * Ideal.div 1 (∑ s', Ideal.exp (pscore T g s' - Finset.univ.fold max cBot (pscore T g))) * T s j

/-- A sequence pooled with the textbook softmax of its scores. -/
def poolR (T : Seq) (g : Fin 768 → EReal) (j : Fin 768) : EReal :=
  ∑ s, soft (fun s => ∑ j, T s j * g j) s * T s j

end Cert.Enc
-- ==== Proof.Enc.KerOps.lean ====
module

public import proofs.«01_k».proof.Proof.Gen.KernelIdeal.Value
public import proofs.«01_k».proof.Proof.Enc.Spec
public import Idealize.ShloMosaic.Lib.Pointwise
public import Idealize.ShloMosaic.Lib.Pipeline.ReadBack

/-!
What the kernel's vector operations compute at one index, in the terms of the encoder written on plain index
functions: the head of an attention, the two normalisations of a layer, and the pooling of a sequence.
-/

@[expose] public section

noncomputable section

namespace Cert.Enc.Ker

open Cert.KernelIdeal Cert.KernelIdeal.Gen
open Idealize.ShloMosaic Idealize.ShloMosaic.TcCoe
open scoped BigOperators

/-- A weight matrix that the host has transposed, read back in the reference's orientation. -/
def matT (W : FVec Ideal S1x768x768 .bf16) : Wt := fun o i => W (ix3 0 i o)

/-- The kernel's score factor is the named constant. -/
theorem named_eq : (Named.named κ "log2e_over_8" 0x3E38AA3B#32 : Ideal .f32) = cSc :=
  IdealRules.named_const.ideal_named_scalar _ _ _ _ rfl

/-- One head's output, from its query, key and value columns. -/
theorem head_apply (q k v : FVec Ideal S512x64 .bf16) (s : Fin 512) (d : Fin 64) :
    k0_pay15 (F := Ideal) q k v (ix2 s d)
      = smK (fun t => ∑ d', q (ix2 s d') * k (ix2 t d')) (fun t => v (ix2 t d)) := by
  unfold k0_pay15 smK
  have hn := named_eq
  pointwise [dot_S512x64_S512x64_S512x512_1_1_0_0_n_n, dot_S512x512_S512x64_S512x64_1_0_0_1_n_n, hn]
  rfl

/-- The residual sum of a row less its mean. -/
theorem dev_apply (a b : FVec Ideal S512x768 .f32) (s : Fin 512) (o : Fin 768) :
    k0_pay51 (F := Ideal) a b (ix2 s o) = dev (fun j => a (ix2 s j) + b (ix2 s j)) o := by
  unfold k0_pay51 dev mean cD
  have hs : ∀ (s : Fin 512), multiReduction .add [1] S512 (addf a b) 0x00000000#32 reduces_S512x768_S512 (.inl rfl) rfl (ix1 s)
      = ∑ j, (a (ix2 s j) + b (ix2 s j)) := by
    intro s; pointwise
  generalize multiReduction .add [1] S512 (addf a b) 0x00000000#32 reduces_S512x768_S512 (.inl rfl) rfl = R at hs ⊢
  pointwise [hs]

/-- The variance of a row's residual sum. -/
theorem var_apply (a b : FVec Ideal S512x768 .f32) (s : Fin 512) (u : Fin 1) :
    k0_pay52 (F := Ideal) a b (ix2 s u)
      = mean (fun j => dev (fun j => a (ix2 s j) + b (ix2 s j)) j * dev (fun j => a (ix2 s j) + b (ix2 s j)) j) := by
  unfold k0_pay52
  have hd := dev_apply a b
  generalize k0_pay51 (F := Ideal) a b = D at hd ⊢
  unfold mean cD
  pointwise [hd]

/-- The first normalisation of a layer. -/
def mid (a b : FVec Ideal S512x768 .f32) : FVec Ideal S512x768 .f32 :=
  k0_pay54 (F := Ideal) (k0_pay51 (F := Ideal) a b) (k0_pay52 (F := Ideal) a b) (FloatOps.ofBits .f32 0x3727C5AC#32)

/-- The first normalisation, read at an index. -/
theorem mid_apply (a b : FVec Ideal S512x768 .f32) (s : Fin 512) (o : Fin 768) :
    mid a b (ix2 s o) = lnRow (fun j => a (ix2 s j) + b (ix2 s j)) o := by
  unfold mid
  have hd := dev_apply a b
  have hv := var_apply a b
  generalize k0_pay51 (F := Ideal) a b = D at hd ⊢
  generalize k0_pay52 (F := Ideal) a b = V at hv ⊢
  unfold k0_pay54 k0_pay53 lnRow cEps
  pointwise [hd, hv]

/-- The hidden row of the two-matrix network. -/
theorem hid_apply (y : FVec Ideal S512x768 .bf16) (w : FVec Ideal S1x768x768 .bf16) (s : Fin 512) (o : Fin 768) :
    k0_pay56 (F := Ideal) y w (ix2 s o) = max (proj (fun j => y (ix2 s j)) (matT w) o) 0 := by
  unfold k0_pay56 proj matT
  pointwise [dot_S512x768_S768x768_S512x768_1_0_0_1_n_n]

/-- The second residual sum of a row less its mean. -/
theorem dev2_apply (t : FVec Ideal S512x768 .bf16) (w : FVec Ideal S1x768x768 .bf16) (y : FVec Ideal S512x768 .f32)
    (s : Fin 512) (o : Fin 768) :
    k0_pay57 (F := Ideal) t w y (ix2 s o) = dev (fun j => y (ix2 s j) + proj (fun i => t (ix2 s i)) (matT w) j) o := by
  unfold k0_pay57
  have hm : ∀ (s : Fin 512) (j : Fin 768),
      addf y (matmul dot_S512x768_S768x768_S512x768_1_0_0_1_n_n none t
        (shapeCast S768x768 w shapeCasts_S1x768x768_S768x768) (constant S512x768 .f32 0x00000000#32)) (ix2 s j)
      = y (ix2 s j) + proj (fun i => t (ix2 s i)) (matT w) j := by
    intro s j
    unfold proj matT
    pointwise [dot_S512x768_S768x768_S512x768_1_0_0_1_n_n]
  dsimp only
  generalize addf y (matmul dot_S512x768_S768x768_S512x768_1_0_0_1_n_n none t
        (shapeCast S768x768 w shapeCasts_S1x768x768_S768x768) (constant S512x768 .f32 0x00000000#32)) = U at hm ⊢
  have hs : ∀ (s : Fin 512), multiReduction .add [1] S512 U 0x00000000#32 reduces_S512x768_S512 (.inl rfl) rfl (ix1 s)
      = ∑ j, (y (ix2 s j) + proj (fun i => t (ix2 s i)) (matT w) j) := by
    intro s; pointwise [hm]
  generalize multiReduction .add [1] S512 U 0x00000000#32 reduces_S512x768_S512 (.inl rfl) rfl = R at hs ⊢
  unfold dev mean cD
  pointwise [hs, hm]

/-- The second normalisation, from the row less its mean. -/
theorem ln2_apply (D : FVec Ideal S512x768 .f32) (s : Fin 512) (o : Fin 768) :
    k0_pay59 (F := Ideal) D (ix2 s o)
      = D (ix2 s o) * Ideal.rsqrt (mean (fun j => D (ix2 s j) * D (ix2 s j)) + cEps) := by
  unfold k0_pay59 k0_pay58
  have hs : ∀ (s : Fin 512), multiReduction .add [1] S512 (mulf D D) 0x00000000#32 reduces_S512x768_S512 (.inl rfl) rfl (ix1 s)
      = ∑ j, D (ix2 s j) * D (ix2 s j) := by
    intro s; pointwise
  dsimp only
  generalize multiReduction .add [1] S512 (mulf D D) 0x00000000#32 reduces_S512x768_S512 (.inl rfl) rfl = R at hs ⊢
  unfold mean cD cEps
  pointwise [hs]

/-- What follows the attention in one layer, on the rows of one sequence. -/
def lvl (a b : FVec Ideal S512x768 .f32) (w1 w2 : FVec Ideal S1x768x768 .bf16) : FVec Ideal S512x768 .f32 :=
  k0_pay59 (F := Ideal) (k0_pay57 (F := Ideal) (k0_pay56 (F := Ideal) (k0_pay55 (F := Ideal) (k0_pay51 (F := Ideal) a b) (k0_pay52 (F := Ideal) a b) (FloatOps.ofBits .f32 0x3727C5AC#32)) w1) w2 (mid a b))

/-- What follows the attention in one layer, read at an index. -/
theorem lvl_apply (a b : FVec Ideal S512x768 .f32) (w1 w2 : FVec Ideal S1x768x768 .bf16) (s : Fin 512) (o : Fin 768) :
    lvl a b w1 w2 (ix2 s o)
      = tail (fun s o => b (ix2 s o)) (fun s o => a (ix2 s o)) (matT w1) (matT w2) s o := by
  have h55 : ∀ (s : Fin 512) (o : Fin 768),
      k0_pay55 (F := Ideal) (k0_pay51 (F := Ideal) a b) (k0_pay52 (F := Ideal) a b) (FloatOps.ofBits .f32 0x3727C5AC#32) (ix2 s o)
        = lnRow (fun j => a (ix2 s j) + b (ix2 s j)) o := mid_apply a b
  unfold lvl tail
  rw [ln2_apply]
  simp only [dev2_apply, hid_apply, mid_apply, h55]
  rfl

/-- The rows of the second sequence go through the same operations. -/
theorem lvl_eq (a b : FVec Ideal S512x768 .f32) (w1 w2 : FVec Ideal S1x768x768 .bf16) :
    k0_pay2 (F := Ideal) (k0_pay65 (F := Ideal) (k0_pay64 (F := Ideal) (k0_pay63 (F := Ideal) (k0_pay61 (F := Ideal) a b)) w1) w2 (k0_pay62 (F := Ideal) a b))
      (k0_pay66 (F := Ideal) (k0_pay64 (F := Ideal) (k0_pay63 (F := Ideal) (k0_pay61 (F := Ideal) a b)) w1) w2 (k0_pay62 (F := Ideal) a b)) = lvl a b w1 w2 := rfl

end Cert.Enc.Ker
-- ==== Proof.Enc.KerHeads.lean ====
module

public import proofs.«01_k».proof.Proof.Enc.KerOps

/-!
The attention buffer of one grid point: twelve heads for each of two sequences, each written at its own columns,
leave at every index the attention of that index's sequence and head.
-/

@[expose] public section

noncomputable section

namespace Cert.Enc.Ker

open Cert.KernelIdeal Cert.KernelIdeal.Gen
open Idealize.ShloMosaic Idealize.ShloMosaic.TcCoe
open scoped BigOperators

/-- Row `s` of sequence `b` of the pair a grid point holds. -/
def rowOf (b : Fin 2) (s : Fin 512) : Fin 1024 := ⟨512 * b.val + s.val, by omega⟩

/-- Column `o` of the queries, keys or values (`p = 0, 1, 2`) in the joined buffer. -/
def colOf (p : Fin 3) (o : Fin 768) : Fin 2304 := ⟨768 * p.val + o.val, by omega⟩

/-- The attention at row `s` of sequence `b` and column `o`, from the joined queries, keys and values. -/
def attQ (Q : FVec Ideal S1024x2304 .bf16) (b : Fin 2) : Seq := fun s o =>
  smK (score (fun r c => Q (ix2 (rowOf b r) (colOf 0 c))) (fun r c => Q (ix2 (rowOf b r) (colOf 1 c))) o s)
    (fun t => Q (ix2 (rowOf b t) (colOf 2 o)))

/-- The same, as a function of the buffer's index. -/
def attB (Q : FVec Ideal S1024x2304 .bf16) (y : S1024x768.Idx) : EReal :=
  attQ Q ⟨(y 0).val / 512, by have : (y 0).val < 1024 := (y 0).isLt; omega⟩ ⟨(y 0).val % 512, by omega⟩ (y 1)

/-- The block of one head of one sequence in the joined buffer. -/
abbrev qRect (b : Fin 2) (h : Fin 12) (p : Fin 3) : Rect S1024x2304 :=
  Rect.unit ![512 * b.val, 768 * p.val + 64 * h.val] ![512, 64] (by
    intro a
    match a with
    | ⟨0, _⟩ => show 512 * b.val + 512 ≤ 1024; omega
    | ⟨1, _⟩ => show 768 * p.val + 64 * h.val + 64 ≤ 2304; omega)

/-- The block of one head of one sequence in the attention buffer. -/
abbrev aRect (b : Fin 2) (h : Fin 12) : Rect S1024x768 :=
  Rect.unit ![512 * b.val, 64 * h.val] ![512, 64] (by
    intro a
    match a with
    | ⟨0, _⟩ => show 512 * b.val + 512 ≤ 1024; omega
    | ⟨1, _⟩ => show 64 * h.val + 64 ≤ 768; omega)

/-- The store of one head. -/
def piece (Q : FVec Ideal S1024x2304 .bf16) (b : Fin 2) (h : Fin 12) : View.Piece (Elt Ideal) S1024x768 .f32 :=
  ⟨aRect b h, k0_pay15 (F := Ideal) (View.ld (Val := Elt Ideal) (e' := .bf16) Q (qRect b h 0)) (View.ld (Val := Elt Ideal) (e' := .bf16) Q (qRect b h 1)) (View.ld (Val := Elt Ideal) (e' := .bf16) Q (qRect b h 2))⟩

/-- A head's block, read at an index of the joined buffer. -/
theorem ld_qRect (Q : FVec Ideal S1024x2304 .bf16) (b : Fin 2) (h : Fin 12) (p : Fin 3) (s : Fin 512) (d : Fin 64) :
    View.ld (Val := Elt Ideal) (e' := .bf16) Q (qRect b h p) (ix2 s d)
      = Q (ix2 (rowOf b s) (colOf p ⟨64 * h.val + d.val, by omega⟩)) := by
  refine congrArg Q (funext fun a => Fin.ext ?_)
  match a with
  | ⟨0, _⟩ => show 512 * b.val + 1 * s.val = 512 * b.val + s.val; omega
  | ⟨1, _⟩ => show 768 * p.val + 64 * h.val + 1 * d.val = 768 * p.val + (64 * h.val + d.val); omega

/-- What one head stores is the attention at the head's own indices. -/
theorem piece_apply (Q : FVec Ideal S1024x2304 .bf16) (b : Fin 2) (h : Fin 12) (x : (piece Q b h).1.shape.Idx) :
    (piece Q b h).2 x = attB Q ((piece Q b h).1.emb x) := by
  obtain ⟨s, d, rfl⟩ : ∃ (s : Fin 512) (d : Fin 64), x = ix2 s d := ⟨x 0, x 1, eq_ix2 x⟩
  refine (head_apply _ _ _ s d).trans ?_
  have hl := ld_qRect Q b h
  refine (congrArg₂ smK (funext fun t => Finset.sum_congr rfl fun d' _ => congrArg₂ (· * ·) (hl 0 s d') (hl 1 t d'))
    (funext fun t => hl 2 t d)).trans ?_
  have hb : (⟨((piece Q b h).1.emb (ix2 s d) 0).val / 512, by
      have : ((piece Q b h).1.emb (ix2 s d) 0).val < 1024 := ((piece Q b h).1.emb (ix2 s d) 0).isLt
      omega⟩ : Fin 2) = b := Fin.ext (by
    show (512 * b.val + 1 * s.val) / 512 = b.val; omega)
  have hs : (⟨((piece Q b h).1.emb (ix2 s d) 0).val % 512, by omega⟩ : Fin 512) = s := Fin.ext (by
    show (512 * b.val + 1 * s.val) % 512 = s.val; omega)
  have ho : ((piece Q b h).1.emb (ix2 s d) 1 : Fin 768) = (⟨64 * h.val + d.val, by omega⟩ : Fin 768) := Fin.ext (by
    show 64 * h.val + 1 * d.val = 64 * h.val + d.val; omega)
  unfold attB
  rw [hb, hs, ho]
  unfold attQ score
  have hc : ∀ d' : Fin 64, hcol ⟨64 * h.val + d.val, by omega⟩ d' = ⟨64 * h.val + d'.val, by omega⟩ := fun d' =>
    Fin.ext (by show 64 * ((64 * h.val + d.val) / 64) + d'.val = 64 * h.val + d'.val; omega)
  simp only [hc]

/-- The heads, last stored first. -/
def heads : List (Fin 12) := [11, 10, 9, 8, 7, 6, 5, 4, 3, 2, 1, 0]

/-- The stores of the twelve heads of one sequence. -/
def pieces (Q : FVec Ideal S1024x2304 .bf16) (b : Fin 2) : List (View.Piece (Elt Ideal) S1024x768 .f32) := heads.map (piece Q b)

/-- Every store among the heads of a sequence holds the attention. -/
theorem pieces_ok (Q : FVec Ideal S1024x2304 .bf16) (b : Fin 2) (p : View.Piece (Elt Ideal) S1024x768 .f32)
    (hp : p ∈ pieces Q b) (x : p.1.shape.Idx) : p.2 x = attB Q (p.1.emb x) := by
  obtain ⟨h, _, rfl⟩ := List.mem_map.mp hp
  exact piece_apply Q b h x

/-- The heads of a sequence cover its rows. -/
theorem pieces_cover (Q : FVec Ideal S1024x2304 .bf16) (b : Fin 2) (s : Fin 512) (o : Fin 768) :
    ∃ p ∈ pieces Q b, (ix2 (rowOf b s) o : S1024x768.Idx) ∈ p.1.set := by
  have hm : ∀ h : Fin 12, h ∈ heads := by decide
  refine ⟨piece Q b ⟨o.val / 64, by omega⟩, List.mem_map.mpr ⟨_, hm _, rfl⟩, ?_⟩
  have he : (ix2 (rowOf b s) o : S1024x768.Idx)
      = (aRect b ⟨o.val / 64, by omega⟩).emb (ix2 s (⟨o.val % 64, by omega⟩ : Fin 64)) := by
    refine funext fun a => Fin.ext ?_
    match a with
    | ⟨0, _⟩ => show 512 * b.val + s.val = 512 * b.val + 1 * s.val; omega
    | ⟨1, _⟩ => show o.val = 64 * (o.val / 64) + 1 * (o.val % 64); omega
  rw [he]
  exact LoadRect.idx_mem _ _

/-- The attention at an index, by row and column. -/
theorem attB_row (Q : FVec Ideal S1024x2304 .bf16) (b : Fin 2) (s : Fin 512) (o : Fin 768) :
    attB Q (ix2 (rowOf b s) o) = attQ Q b s o := by
  unfold attB
  have hb : (⟨(rowOf b s).val / 512, by have := (rowOf b s).isLt; omega⟩ : Fin 2) = b := Fin.ext (by
    show (512 * b.val + s.val) / 512 = b.val; omega)
  have hs : (⟨(rowOf b s).val % 512, by omega⟩ : Fin 512) = s := Fin.ext (by
    show (512 * b.val + s.val) % 512 = s.val; omega)
  exact congr (congr (congrArg (attQ Q) hb) hs) rfl

/-- The stores of the first sequence's heads leave its attention at its rows. -/
theorem canon_pieces0 (Q : FVec Ideal S1024x2304 .bf16) (s : Fin 512) (o : Fin 768) :
    View.canon (pieces Q 0) (ix2 (rowOf 0 s) o) = attQ Q 0 s o := by
  rw [← attB_row]
  exact View.canon_apply_of_pieces (Val := Elt Ideal) (e := .f32) (S := S1024x768) (attB Q) _ (pieces_ok Q 0) _ (pieces_cover Q 0 s o)

/-- The stores of the second sequence's heads, after the first's, leave its attention at its rows. -/
theorem canon_pieces1 (Q : FVec Ideal S1024x2304 .bf16) (s : Fin 512) (o : Fin 768) :
    View.canon (pieces Q 1 ++ pieces Q 0) (ix2 (rowOf 1 s) o) = attQ Q 1 s o := by
  rw [← attB_row]
  refine View.canon_apply_of_pieces (Val := Elt Ideal) (e := .f32) (S := S1024x768) (attB Q) _ (fun p hp => ?_) _ ?_
  · rcases List.mem_append.mp hp with h | h
    · exact pieces_ok Q 1 p h
    · exact pieces_ok Q 0 p h
  · obtain ⟨p, hp, hy⟩ := pieces_cover Q 1 s o
    exact ⟨p, List.mem_append_left _ hp, hy⟩

end Cert.Enc.Ker
-- ==== Proof.Enc.KerBody.lean ====
module

public import proofs.«01_k».proof.Proof.Enc.KerHeads

/-!
What one grid point's layer leaves in the buffer of rows: the layer of the rows that were there.
-/

@[expose] public section

noncomputable section

namespace Cert.Enc.Ker

open Cert.KernelIdeal Cert.KernelIdeal.Gen
open Idealize.ShloMosaic Idealize.ShloMosaic.TcCoe
open scoped BigOperators

/-- A grid point holds two sequences. -/
theorem two (b : Fin 2) : b = 0 ∨ b = 1 := by omega

/-- The rows of one sequence in the buffer of rows. -/
abbrev rRect (b : Fin 2) : Rect S1024x768 :=
  Rect.unit ![512 * b.val, 0] ![512, 768] (by
    intro a
    match a with
    | ⟨0, _⟩ => show 512 * b.val + 512 ≤ 1024; omega
    | ⟨1, _⟩ => show 0 + 768 ≤ 768; omega)

/-- Row `s` of sequence `b` in the buffer of rows. -/
theorem rRect_idx (b : Fin 2) (s : Fin 512) (o : Fin 768) : (rRect b).idx (ix2 s o) = ix2 (rowOf b s) o := by
  refine funext fun a => Fin.ext ?_
  match a with
  | ⟨0, _⟩ => show 512 * b.val + 1 * s.val = 512 * b.val + s.val; omega
  | ⟨1, _⟩ => show 0 + 1 * o.val = o.val; omega

/-- A row of the first sequence is no row of the second. -/
theorem rRect_not_mem (s : Fin 512) (o : Fin 768) : (ix2 (rowOf 0 s) o : S1024x768.Idx) ∉ (rRect 1).set := by
  intro h
  obtain ⟨j, _, hj⟩ := (LoadRect.mem_set _).mp h 0
  have : 512 * 0 + s.val = 512 * 1 + 1 * j := hj
  have := s.isLt
  omega

/-- A row of the sequence stored last reads that store. -/
theorem canon_hit {e : EltTy} (b : Fin 2) (f : S512x768.Idx → Elt Ideal e) (L : List (View.Piece (Elt Ideal) S1024x768 e))
    (s : Fin 512) (o : Fin 768) : View.canon (⟨rRect b, f⟩ :: L) (ix2 (rowOf b s) o) = f (ix2 s o) :=
  (congrArg (View.canon (⟨rRect b, f⟩ :: L)) (rRect_idx b s o).symm).trans (View.canon_cons_emb (rRect b) f L (ix2 s o))

/-- A row of the first sequence passes a store into the second's. -/
theorem canon_miss {e : EltTy} (f : S512x768.Idx → Elt Ideal e) (L : List (View.Piece (Elt Ideal) S1024x768 e))
    (s : Fin 512) (o : Fin 768) : View.canon (⟨rRect 1, f⟩ :: L) (ix2 (rowOf 0 s) o) = View.canon L (ix2 (rowOf 0 s) o) :=
  View.canon_cons_of_not_mem ⟨rRect 1, f⟩ L (rRect_not_mem s o)

/-- The attention that the first sequence's rows add. -/
def att0 (Q : FVec Ideal S1024x2304 .bf16) : FVec Ideal S512x768 .f32 := fun j => View.canon (pieces Q 0) ((rRect 0).idx j)

/-- The attention that the second sequence's rows add. -/
def att1 (Q : FVec Ideal S1024x2304 .bf16) : FVec Ideal S512x768 .f32 := fun j => View.canon (pieces Q 1 ++ pieces Q 0) ((rRect 1).idx j)

/-- The first sequence's added rows are its attention. -/
theorem att0_apply (Q : FVec Ideal S1024x2304 .bf16) (s : Fin 512) (o : Fin 768) : att0 Q (ix2 s o) = attQ Q 0 s o :=
  (congrArg (View.canon (pieces Q 0)) (rRect_idx 0 s o)).trans (canon_pieces0 Q s o)

/-- The second sequence's added rows are its attention. -/
theorem att1_apply (Q : FVec Ideal S1024x2304 .bf16) (s : Fin 512) (o : Fin 768) : att1 Q (ix2 s o) = attQ Q 1 s o :=
  (congrArg (View.canon (pieces Q 1 ++ pieces Q 0)) (rRect_idx 1 s o)).trans (canon_pieces1 Q s o)

/-- The stores one layer makes into the buffer of rows. -/
def outL (P0 P1 : FVec Ideal S512x768 .f32) (Q : FVec Ideal S1024x2304 .bf16) (w1 w2 : FVec Ideal S1x768x768 .bf16) :
    List (View.Piece (Elt Ideal) S1024x768 .f32) :=
  [⟨rRect 1, lvl P1 (att1 Q) w1 w2⟩, ⟨rRect 1, mid P1 (att1 Q)⟩, ⟨rRect 0, lvl P0 (att0 Q) w1 w2⟩, ⟨rRect 0, mid P0 (att0 Q)⟩]

/-- The stores one layer makes into the buffer of rounded rows. -/
def outLb (P0 P1 : FVec Ideal S512x768 .f32) (Q : FVec Ideal S1024x2304 .bf16) (w1 w2 : FVec Ideal S1x768x768 .bf16) :
    List (View.Piece (Elt Ideal) S1024x768 .bf16) :=
  [⟨rRect 1, lvl P1 (att1 Q) w1 w2⟩, ⟨rRect 1, mid P1 (att1 Q)⟩, ⟨rRect 0, lvl P0 (att0 Q) w1 w2⟩, ⟨rRect 0, mid P0 (att0 Q)⟩]

/-- The list of stores, opened. -/
theorem outL_cons (P0 P1 : FVec Ideal S512x768 .f32) (Q : FVec Ideal S1024x2304 .bf16) (w1 w2 : FVec Ideal S1x768x768 .bf16)
    (L : List (View.Piece (Elt Ideal) S1024x768 .f32)) :
    outL P0 P1 Q w1 w2 ++ L = ⟨rRect 1, lvl P1 (att1 Q) w1 w2⟩ :: ⟨rRect 1, mid P1 (att1 Q)⟩ :: ⟨rRect 0, lvl P0 (att0 Q) w1 w2⟩
      :: ⟨rRect 0, mid P0 (att0 Q)⟩ :: L := rfl

/-- The list of stores, opened. -/
theorem outLb_cons (P0 P1 : FVec Ideal S512x768 .f32) (Q : FVec Ideal S1024x2304 .bf16) (w1 w2 : FVec Ideal S1x768x768 .bf16)
    (L : List (View.Piece (Elt Ideal) S1024x768 .bf16)) :
    outLb P0 P1 Q w1 w2 ++ L = ⟨rRect 1, lvl P1 (att1 Q) w1 w2⟩ :: ⟨rRect 1, mid P1 (att1 Q)⟩ :: ⟨rRect 0, lvl P0 (att0 Q) w1 w2⟩
      :: ⟨rRect 0, mid P0 (att0 Q)⟩ :: L := rfl

/-- One of the three matrices joined in the buffer of weights, in the reference's orientation. -/
def wQ (W : FVec Ideal S1x768x2304 .bf16) (p : Fin 3) : Wt := fun o i => W (ix3 0 i (colOf p o))

/-- The joined queries, keys and values of a row. -/
theorem qkv_apply (X : FVec Ideal S1024x768 .bf16) (W : FVec Ideal S1x768x2304 .bf16) (r : Fin 1024) (c : Fin 2304) :
    k0_pay14 (F := Ideal) X W (ix2 r c) = ∑ i, X (ix2 r i) * W (ix3 0 i c) := by
  unfold k0_pay14
  pointwise [dot_S1024x768_S768x2304_S1024x2304_1_0_0_1_n_n]

/-- The buffer's attention is the attention of the sequence. -/
theorem attQ_eq (X : FVec Ideal S1024x768 .bf16) (W : FVec Ideal S1x768x2304 .bf16) (b : Fin 2) (Y : Seq)
    (hX : ∀ s o, X (ix2 (rowOf b s) o) = Y s o) :
    attQ (k0_pay14 (F := Ideal) X W) b = attK Y (wQ W 0) (wQ W 1) (wQ W 2) := by
  have hq : ∀ (p : Fin 3) (r : Fin 512) (c : Fin 768),
      k0_pay14 (F := Ideal) X W (ix2 (rowOf b r) (colOf p c)) = proj (Y r) (wQ W p) c := by
    intro p r c
    rw [qkv_apply]
    exact Finset.sum_congr rfl fun i _ => by rw [hX]; rfl
  unfold attQ attK
  simp only [hq]

/-- One layer's stores leave, in the rows of each sequence, the layer of the rows that were there. -/
theorem outL_row (P : Fin 2 → FVec Ideal S512x768 .f32) (X : FVec Ideal S1024x768 .bf16) (W : FVec Ideal S1x768x2304 .bf16)
    (w1 w2 : FVec Ideal S1x768x768 .bf16) (Y : Fin 2 → Seq) (hP : ∀ b s o, P b (ix2 s o) = Y b s o)
    (hX : ∀ b s o, X (ix2 (rowOf b s) o) = Y b s o) (L : List (View.Piece (Elt Ideal) S1024x768 .f32)) (b : Fin 2) (s : Fin 512) (o : Fin 768) :
    View.canon (outL (P 0) (P 1) (k0_pay14 (F := Ideal) X W) w1 w2 ++ L) (ix2 (rowOf b s) o)
      = layerK (Y b) (wQ W 0) (wQ W 1) (wQ W 2) (matT w1) (matT w2) s o := by
  unfold layerK
  have h0 : ∀ s o, att0 (k0_pay14 (F := Ideal) X W) (ix2 s o) = attK (Y 0) (wQ W 0) (wQ W 1) (wQ W 2) s o := by
    intro s o
    rw [att0_apply, attQ_eq X W 0 (Y 0) (hX 0)]
  have h1 : ∀ s o, att1 (k0_pay14 (F := Ideal) X W) (ix2 s o) = attK (Y 1) (wQ W 0) (wQ W 1) (wQ W 2) s o := by
    intro s o
    rw [att1_apply, attQ_eq X W 1 (Y 1) (hX 1)]
  rcases two b with rfl | rfl
  · rw [outL_cons, canon_miss, canon_miss, canon_hit, lvl_apply]
    simp only [h0, hP]
  · rw [outL_cons, canon_hit, lvl_apply]
    simp only [h1, hP]

/-- The rounded rows are the rows. -/
theorem outLb_eq (P0 P1 : FVec Ideal S512x768 .f32) (Q : FVec Ideal S1024x2304 .bf16) (w1 w2 : FVec Ideal S1x768x768 .bf16)
    (L : List (View.Piece (Elt Ideal) S1024x768 .f32)) (L' : List (View.Piece (Elt Ideal) S1024x768 .bf16)) (b : Fin 2) (s : Fin 512) (o : Fin 768) :
    View.canon (outLb P0 P1 Q w1 w2 ++ L') (ix2 (rowOf b s) o) = View.canon (outL P0 P1 Q w1 w2 ++ L) (ix2 (rowOf b s) o) := by
  rcases two b with rfl | rfl
  · rw [outL_cons, outLb_cons, canon_miss, canon_miss, canon_hit, canon_miss, canon_miss, canon_hit]
  · rw [outL_cons, outLb_cons, canon_hit, canon_hit]

end Cert.Enc.Ker
-- ==== Proof.Enc.KerPool.lean ====
module

public import proofs.«01_k».proof.Proof.Enc.KerOps

/-!
What the kernel's closing operations compute at one index: the hyperbolic tangent of the last layer's rows, their
pooling by a softmax of scores, and the last product.
-/

@[expose] public section

noncomputable section

namespace Cert.Enc.Ker

open Cert.KernelIdeal Cert.KernelIdeal.Gen
open Idealize.ShloMosaic Idealize.ShloMosaic.TcCoe
open scoped BigOperators

/-- The tangent of the last layer's rows times the closing matrix. -/
theorem tanh_apply (x : FVec Ideal S1024x768 .bf16) (w : FVec Ideal S768x768 .bf16) (r : Fin 1024) (o : Fin 768) :
    k0_pay5 (F := Ideal) x w (ix2 r o) = Ideal.tanh (∑ i, x (ix2 r i) * w (ix2 i o)) := by
  unfold k0_pay5
  pointwise [dot_S1024x768_S768x768_S1024x768_1_0_0_1_n_n]

/-- The pooling scores. -/
def kScores (T : FVec Ideal S512x768 .f32) (g : FVec Ideal S1x768 .f32) : FVec Ideal S1x512 .f32 :=
  matmul dot_S1x768_S512x768_S1x512_1_1_0_0_n_n none g T (constant S1x512 .f32 0x00000000#32)

/-- The pooling scores, read at an index. -/
theorem kScores_apply (T : FVec Ideal S512x768 .f32) (g : FVec Ideal S1x768 .f32) (u : Fin 1) (s : Fin 512) :
    kScores T g (ix2 u s) = pscore (fun s o => T (ix2 s o)) (fun j => g (ix2 0 j)) s := by
  obtain rfl : u = 0 := Subsingleton.elim _ _
  unfold kScores pscore
  pointwise [dot_S1x768_S512x768_S1x512_1_1_0_0_n_n]

/-- The exponentials of the scores less their greatest. -/
def kExp (a : FVec Ideal S1x512 .f32) : FVec Ideal S1x512 .f32 :=
  exp (subf a (broadcastTo S1x512 (shapeCast S1x1 (multiReduction .maximumf [1] S1 a 0xFF800000#32 reduces_S1x512_S1 (.inl rfl) rfl)
    shapeCasts_S1_S1x1) broadcasts_S1x1_S1x512))

/-- The exponentials, read at an index. -/
theorem kExp_apply (a : FVec Ideal S1x512 .f32) (u : Fin 1) (s : Fin 512) :
    kExp a (ix2 u s) = Ideal.exp (a (ix2 0 s) - Finset.univ.fold max cBot fun s' => a (ix2 0 s')) := by
  obtain rfl : u = 0 := Subsingleton.elim _ _
  unfold kExp
  have hs : ∀ u : Fin 1, multiReduction .maximumf [1] S1 a 0xFF800000#32 reduces_S1x512_S1 (.inl rfl) rfl (ix1 u)
      = Finset.univ.fold max cBot fun s' => a (ix2 0 s') := by
    intro u
    refine (Ideal.multiReduction_maximumf_single a _ reduces_S1x512_S1 (.inl rfl) rfl (ix1 u)).trans ?_
    refine congrArg (fun f => (Finset.univ : Finset (Fin 512)).fold max cBot f) (funext fun t => congrArg a (funext fun d => ?_))
    match d with
    | ⟨0, _⟩ => exact Fin.ext (by have := u.isLt; show u.val = 0; omega)
    | ⟨1, _⟩ => rfl
  generalize multiReduction .maximumf [1] S1 a 0xFF800000#32 reduces_S1x512_S1 (.inl rfl) rfl = R at hs ⊢
  pointwise [hs]

/-- The exponentials over their sum. -/
def kNorm (e : FVec Ideal S1x512 .f32) : FVec Ideal S1x512 .f32 :=
  mulf e (broadcastTo S1x512 (divf (broadcast S1x1 (Scalar.ofBits .f32 0x3F800000#32))
    (shapeCast S1x1 (multiReduction .add [1] S1 e 0x00000000#32 reduces_S1x512_S1 (.inl rfl) rfl) shapeCasts_S1_S1x1))
    broadcasts_S1x1_S1x512)

/-- The exponentials over their sum, read at an index. -/
theorem kNorm_apply (e : FVec Ideal S1x512 .f32) (u : Fin 1) (s : Fin 512) :
    kNorm e (ix2 u s) = e (ix2 0 s) * Ideal.div 1 (∑ s', e (ix2 0 s')) := by
  obtain rfl : u = 0 := Subsingleton.elim _ _
  unfold kNorm
  have hs : ∀ u : Fin 1, multiReduction .add [1] S1 e 0x00000000#32 reduces_S1x512_S1 (.inl rfl) rfl (ix1 u)
      = ∑ s', e (ix2 0 s') := by
    intro u; pointwise
  generalize multiReduction .add [1] S1 e 0x00000000#32 reduces_S1x512_S1 (.inl rfl) rfl = R at hs ⊢
  pointwise [hs]

/-- The closing product over the pooled row and the features. -/
def kLast (p : FVec Ideal S1x512 .f32) (T : FVec Ideal S512x768 .f32) (A : FVec Ideal S768x256 .f32)
    (f : FVec Ideal S1x1x16 .f32) (B : FVec Ideal S16x256 .f32) : FVec Ideal S1x1x256 .f32 :=
  shapeCast S1x1x256 (tanh (addf
    (matmul dot_S1x768_S768x256_S1x256_1_0_0_1_n_n none
      (matmul dot_S1x512_S512x768_S1x768_1_0_0_1_n_n none p T (constant S1x768 .f32 0x00000000#32))
      (shapeCast S768x256 A shapeCasts_S768x256_S768x256) (constant S1x256 .f32 0x00000000#32))
    (matmul dot_S1x16_S16x256_S1x256_1_0_0_1_n_n none (shapeCast S1x16 f shapeCasts_S1x1x16_S1x16)
      (shapeCast S16x256 B shapeCasts_S16x256_S16x256) (constant S1x256 .f32 0x00000000#32)))) shapeCasts_S1x256_S1x1x256

/-- The closing product, read at an index. -/
theorem kLast_apply (p : FVec Ideal S1x512 .f32) (T : FVec Ideal S512x768 .f32) (A : FVec Ideal S768x256 .f32)
    (f : FVec Ideal S1x1x16 .f32) (B : FVec Ideal S16x256 .f32) (u v : Fin 1) (o : Fin 256) :
    kLast p T A f B (ix3 u v o)
      = Ideal.tanh (∑ j, (∑ s, p (ix2 0 s) * T (ix2 s j)) * A (ix2 j o) + ∑ k, f (ix3 0 0 k) * B (ix2 k o)) := by
  unfold kLast
  pointwise [dot_S1x768_S768x256_S1x256_1_0_0_1_n_n, dot_S1x512_S512x768_S1x768_1_0_0_1_n_n, dot_S1x16_S16x256_S1x256_1_0_0_1_n_n]

/-- One sequence's result, from its rows' tangents. -/
theorem pool_apply (T : FVec Ideal S512x768 .f32) (g : FVec Ideal S1x768 .f32) (A : FVec Ideal S768x256 .f32)
    (f : FVec Ideal S1x1x16 .f32) (B : FVec Ideal S16x256 .f32) (u v : Fin 1) (o : Fin 256) :
    k0_pay4 (F := Ideal) T g A f B (ix3 u v o)
      = Ideal.tanh (∑ j, poolK (fun s o => T (ix2 s o)) (fun j => g (ix2 0 j)) j * A (ix2 j o)
          + ∑ k, f (ix3 0 0 k) * B (ix2 k o)) := by
  have h : k0_pay4 (F := Ideal) T g A f B = kLast (kNorm (kExp (kScores T g))) T A f B := rfl
  rw [h, kLast_apply]
  simp only [kNorm_apply, kExp_apply, kScores_apply]
  rfl

/-- The first sequence's result goes through the same operations. -/
theorem pay6_eq (x : FVec Ideal S1024x768 .bf16) (w : FVec Ideal S768x768 .bf16) (g : FVec Ideal S1x768 .f32)
    (A : FVec Ideal S768x256 .f32) (f : FVec Ideal S1x1x16 .f32) (B : FVec Ideal S16x256 .f32) :
    k0_pay6 (F := Ideal) x w g A f B
      = k0_pay4 (F := Ideal) (extractStridedSlice S512x768 ![0, 0] (k0_pay5 (F := Ideal) x w) slices_S1024x768_o0_0_S512x768) g A f B := rfl

end Cert.Enc.Ker
-- ==== Proof.Enc.KerPoint.lean ====
module

public import proofs.«01_k».proof.Proof.Enc.KerBody
public import proofs.«01_k».proof.Proof.Enc.KerPool

/-!
What one grid point leaves in the two buffers of rows and in its result block, from the blocks it finds: the body's
loads and stores, read back store by store.
-/

@[expose] public section

noncomputable section

namespace Cert.Enc.Ker

open Cert.KernelIdeal Cert.KernelIdeal.Gen
open Idealize.ShloMosaic Idealize.ShloMosaic.TcCoe Idealize.SL.Sem

/-- The whole buffer of rounded rows, as the body loads it. -/
abbrev ldX (X : Vec Ideal S1024x768 .bf16) : FVec Ideal S1024x768 .bf16 :=
  View.ld (Val := Elt Ideal) (e' := .bf16) X (Rect.unit ![0, 0] S1024x768.size inb_S1024x768_S1024x768_0_0)

/-- The joined weights of a layer, as the body loads them. -/
abbrev ldW (W : Vec Ideal S1x768x2304 .bf16) : FVec Ideal S1x768x2304 .bf16 :=
  View.ld (Val := Elt Ideal) (e' := .bf16) W (Rect.unit ![0, 0, 0] S1x768x2304.size inb_S1x768x2304_S1x768x2304_0_0_0)

/-- A square matrix of a layer, as the body loads it. -/
abbrev ldM (W : Vec Ideal S1x768x768 .bf16) : FVec Ideal S1x768x768 .bf16 :=
  View.ld (Val := Elt Ideal) (e' := .bf16) W (Rect.unit ![0, 0, 0] S1x768x768.size inb_S1x768x768_S1x768x768_0_0_0)

/-- The rows of the first sequence a first point starts from. -/
abbrev ini0 (x0 : Vec Ideal S2x512x768 .f32) (x1 : Vec Ideal S512x768 .f32) : FVec Ideal S512x768 .f32 :=
  k0_pay9 (F := Ideal) (View.ld (Val := Elt Ideal) (e' := .f32) x0 (Rect.unit ![0, 0, 0] S1x512x768.size inb_S2x512x768_S1x512x768_0_0_0))
    (View.ld (Val := Elt Ideal) (e' := .f32) x1 (Rect.unit ![0, 0] S512x768.size inb_S512x768_S512x768_0_0))

/-- The rows of the second sequence a first point starts from. -/
abbrev ini1 (x0 : Vec Ideal S2x512x768 .f32) (x1 : Vec Ideal S512x768 .f32) : FVec Ideal S512x768 .f32 :=
  k0_pay12 (F := Ideal) (View.ld (Val := Elt Ideal) (e' := .f32) x0 (Rect.unit ![1, 0, 0] S1x512x768.size inb_S2x512x768_S1x512x768_1_0_0))
    (View.ld (Val := Elt Ideal) (e' := .f32) x1 (Rect.unit ![0, 0] S512x768.size inb_S512x768_S512x768_0_0))

/-- The stores of the rows a first point starts from. -/
abbrev iniL (x0 : Vec Ideal S2x512x768 .f32) (x1 : Vec Ideal S512x768 .f32) : List (View.Piece (Elt Ideal) S1024x768 .f32) :=
  [⟨rRect 1, ini1 x0 x1⟩, ⟨rRect 0, ini0 x0 x1⟩]

/-- The stores of the rounded rows a first point starts from. -/
abbrev iniLb (x0 : Vec Ideal S2x512x768 .f32) (x1 : Vec Ideal S512x768 .f32) : List (View.Piece (Elt Ideal) S1024x768 .bf16) :=
  [⟨rRect 1, k0_pay13 (F := Ideal) (View.ld (Val := Elt Ideal) (e' := .f32) x0 (Rect.unit ![1, 0, 0] S1x512x768.size inb_S2x512x768_S1x512x768_1_0_0))
      (View.ld (Val := Elt Ideal) (e' := .f32) x1 (Rect.unit ![0, 0] S512x768.size inb_S512x768_S512x768_0_0))⟩,
   ⟨rRect 0, k0_pay10 (F := Ideal) (View.ld (Val := Elt Ideal) (e' := .f32) x0 (Rect.unit ![0, 0, 0] S1x512x768.size inb_S2x512x768_S1x512x768_0_0_0))
      (View.ld (Val := Elt Ideal) (e' := .f32) x1 (Rect.unit ![0, 0] S512x768.size inb_S512x768_S512x768_0_0))⟩]

/-- The two sequences' result rows, stored into the result block. -/
def outR (X : FVec Ideal S1024x768 .bf16) (x5 : Vec Ideal S768x768 .bf16) (x6 : Vec Ideal S1x768 .f32) (x7 : Vec Ideal S768x256 .f32)
    (x8 : Vec Ideal S16x256 .f32) (x9 : Vec Ideal S2x1x16 .f32) : List (View.Piece (Elt Ideal) S2x1x256 .f32) :=
  let w : FVec Ideal S768x768 .bf16 := View.ld (Val := Elt Ideal) (e' := .bf16) x5 (Rect.unit ![0, 0] S768x768.size inb_S768x768_S768x768_0_0)
  let g : FVec Ideal S1x768 .f32 := View.ld (Val := Elt Ideal) (e' := .f32) x6 (Rect.unit ![0, 0] S1x768.size inb_S1x768_S1x768_0_0)
  let A : FVec Ideal S768x256 .f32 := View.ld (Val := Elt Ideal) (e' := .f32) x7 (Rect.unit ![0, 0] S768x256.size inb_S768x256_S768x256_0_0)
  let B : FVec Ideal S16x256 .f32 := View.ld (Val := Elt Ideal) (e' := .f32) x8 (Rect.unit ![0, 0] S16x256.size inb_S16x256_S16x256_0_0)
  [⟨Rect.unit ![1, 0, 0] S1x1x256.size inb_S2x1x256_S1x1x256_1_0_0, k0_pay4 (F := Ideal) (k0_pay7 (F := Ideal) X w) g A
      (View.ld (Val := Elt Ideal) (e' := .f32) x9 (Rect.unit ![1, 0, 0] S1x1x16.size inb_S2x1x16_S1x1x16_1_0_0)) B⟩,
   ⟨Rect.unit ![0, 0, 0] S1x1x256.size inb_S2x1x256_S1x1x256_0_0_0, k0_pay6 (F := Ideal) X w g A
      (View.ld (Val := Elt Ideal) (e' := .f32) x9 (Rect.unit ![0, 0, 0] S1x1x16.size inb_S2x1x16_S1x1x16_0_0_0)) B⟩]

variable (c : Dev nD) (i : grid0.Coords) (arg2 : Memref sig .tc .vmem S2x512x768 .f32) (harg2 : arg2.IsWhole) (arg3 : Memref sig .tc .vmem S512x768 .f32) (harg3 : arg3.IsWhole) (arg4 : Memref sig .tc .vmem S1x768x2304 .bf16) (harg4 : arg4.IsWhole) (arg5 : Memref sig .tc .vmem S1x768x768 .bf16) (harg5 : arg5.IsWhole) (arg6 : Memref sig .tc .vmem S1x768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S768x256 .f32) (harg9 : arg9.IsWhole) (arg10 : Memref sig .tc .vmem S16x256 .f32) (harg10 : arg10.IsWhole) (arg11 : Memref sig .tc .vmem S2x1x16 .f32) (harg11 : arg11.IsWhole) (arg12 : Memref sig .tc .vmem S2x1x256 .f32) (harg12 : arg12.IsWhole) (arg13 : Memref sig .tc .vmem S1024x768 .f32) (harg13 : arg13.IsWhole) (arg14 : Memref sig .tc .vmem S1024x768 .bf16) (harg14 : arg14.IsWhole) (arg15 : Memref sig .tc .vmem S1024x2304 .bf16) (harg15 : arg15.IsWhole) (arg16 : Memref sig .tc .vmem S1024x768 .f32) (harg16 : arg16.IsWhole) (arg17 : Memref sig .tc .vmem S1024x768 .bf16) (harg17 : arg17.IsWhole)
    (x0 : Vec Ideal S2x512x768 .f32) (x1 : Vec Ideal S512x768 .f32) (x2 : Vec Ideal S1x768x2304 .bf16) (x3 : Vec Ideal S1x768x768 .bf16) (x4 : Vec Ideal S1x768x768 .bf16) (x5 : Vec Ideal S768x768 .bf16) (x6 : Vec Ideal S1x768 .f32) (x7 : Vec Ideal S768x256 .f32) (x8 : Vec Ideal S16x256 .f32) (x9 : Vec Ideal S2x1x16 .f32) (xs0 : Vec Ideal S1024x768 .f32) (xs1 : Vec Ideal S1024x768 .bf16)

/-- The rows a first point leaves, store by store. -/
theorem sA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
      = View.canon (outL (ini0 x0 x1) (ini1 x0 x1) (k0_pay14 (F := Ideal) (ldX (View.canon (iniLb x0 x1))) (ldW x2)) (ldM x3) (ldM x4) ++ iniL x0 x1) := by
  unfold sout0_A_0
  rw [View.read_writes_junk_eq_canon]
  unfold kernelRun0_A
  dsimp only
  sl_unfold_words
  simp (config := {decide := true}) only [View.readCov_eq_canon' arg16.view, ↓View.readCov_cons_toLoadRect, ↓View.readCov_skip, ↓View.readCov_fill, View.readAt_eq_ld, Memref.IsWhole.read_unread, View.readCov_eq_canon' arg14.view]
  rfl

/-- The rounded rows a first point leaves, store by store. -/
theorem sA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
      = View.canon (outLb (ini0 x0 x1) (ini1 x0 x1) (k0_pay14 (F := Ideal) (ldX (View.canon (iniLb x0 x1))) (ldW x2)) (ldM x3) (ldM x4) ++ iniLb x0 x1) := by
  unfold sout0_A_1
  rw [View.read_writes_junk_eq_canon]
  unfold kernelRun0_A
  dsimp only
  sl_unfold_words
  simp (config := {decide := true}) only [View.readCov_eq_canon' arg16.view, ↓View.readCov_cons_toLoadRect, ↓View.readCov_skip, ↓View.readCov_fill, View.readAt_eq_ld, Memref.IsWhole.read_unread, View.readCov_eq_canon' arg14.view]
  rfl

/-- The rows a middle point leaves, store by store. -/
theorem sB0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1
      = View.canon (outL (View.ld xs0 (rRect 0)) (View.ld xs0 (rRect 1)) (k0_pay14 (F := Ideal) (ldX xs1) (ldW x2)) (ldM x3) (ldM x4)) := by
  unfold sout0_B_0
  rw [View.read_writes_junk_eq_canon]
  unfold kernelRun0_B
  dsimp only
  sl_unfold_words
  simp (config := {decide := true}) only [View.readCov_eq_canon' arg16.view, ↓View.readCov_cons_toLoadRect, ↓View.readCov_skip, ↓View.readCov_fill, View.readAt_eq_ld, Memref.IsWhole.read_unread, View.readCov_eq_canon' arg14.view]
  rfl

/-- The rounded rows a middle point leaves, store by store. -/
theorem sB1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1
      = View.canon (outLb (View.ld xs0 (rRect 0)) (View.ld xs0 (rRect 1)) (k0_pay14 (F := Ideal) (ldX xs1) (ldW x2)) (ldM x3) (ldM x4)) := by
  unfold sout0_B_1
  rw [View.read_writes_junk_eq_canon]
  unfold kernelRun0_B
  dsimp only
  sl_unfold_words
  simp (config := {decide := true}) only [View.readCov_eq_canon' arg16.view, ↓View.readCov_cons_toLoadRect, ↓View.readCov_skip, ↓View.readCov_fill, View.readAt_eq_ld, Memref.IsWhole.read_unread, View.readCov_eq_canon' arg14.view]
  rfl

/-- The rows a last point leaves, store by store. -/
theorem sC0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1
      = View.canon (outL (View.ld xs0 (rRect 0)) (View.ld xs0 (rRect 1)) (k0_pay14 (F := Ideal) (ldX xs1) (ldW x2)) (ldM x3) (ldM x4)) := by
  unfold sout0_C_0
  rw [View.read_writes_junk_eq_canon]
  unfold kernelRun0_C
  dsimp only
  sl_unfold_words
  simp (config := {decide := true}) only [View.readCov_eq_canon' arg16.view, ↓View.readCov_cons_toLoadRect, ↓View.readCov_skip, ↓View.readCov_fill, View.readAt_eq_ld, Memref.IsWhole.read_unread, View.readCov_eq_canon' arg14.view]
  rfl

/-- The rounded rows a last point leaves, store by store. -/
theorem sC1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1
      = View.canon (outLb (View.ld xs0 (rRect 0)) (View.ld xs0 (rRect 1)) (k0_pay14 (F := Ideal) (ldX xs1) (ldW x2)) (ldM x3) (ldM x4)) := by
  unfold sout0_C_1
  rw [View.read_writes_junk_eq_canon]
  unfold kernelRun0_C
  dsimp only
  sl_unfold_words
  simp (config := {decide := true}) only [View.readCov_eq_canon' arg16.view, ↓View.readCov_cons_toLoadRect, ↓View.readCov_skip, ↓View.readCov_fill, View.readAt_eq_ld, Memref.IsWhole.read_unread, View.readCov_eq_canon' arg14.view]
  rfl

/-- The result block a last point leaves, store by store. -/
theorem oC (hc0 : ¬cond0_0 i) (hc1 : cond0_1 i) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1
      = View.canon (outR (ldX (View.canon (outLb (View.ld xs0 (rRect 0)) (View.ld xs0 (rRect 1)) (k0_pay14 (F := Ideal) (ldX xs1) (ldW x2)) (ldM x3) (ldM x4))))
          x5 x6 x7 x8 x9) := by
  unfold out0_C_10
  rw [View.read_writes_junk_eq_canon]
  unfold kernelRun0_C
  dsimp only
  sl_unfold_words
  simp (config := {decide := true}) only [View.readCov_eq_canon' arg16.view, ↓View.readCov_cons_toLoadRect, ↓View.readCov_skip, ↓View.readCov_fill, View.readAt_eq_ld, Memref.IsWhole.read_unread, View.readCov_eq_canon' arg14.view]
  rfl

end Cert.Enc.Ker
-- ==== Proof.Enc.KerRows.lean ====
module

public import proofs.«01_k».proof.Proof.Enc.KerPoint

/-!
The rows one grid point leaves, and the result rows of a last point, as functions of the rows it starts from.
-/

@[expose] public section

noncomputable section

namespace Cert.Enc.Ker

open Cert.KernelIdeal Cert.KernelIdeal.Gen
open Idealize.ShloMosaic Idealize.ShloMosaic.TcCoe Idealize.SL.Sem

/-- Two zero offsets. -/
theorem zero2 : (![0, 0] : Fin 2 → ℕ) = fun _ => 0 := by
  funext a; fin_cases a <;> rfl

/-- Three zero offsets. -/
theorem zero3 : (![0, 0, 0] : Fin 3 → ℕ) = fun _ => 0 := by
  funext a; fin_cases a <;> rfl

/-- Loading the whole buffer of rounded rows reads it. -/
theorem ldX_eq (X : Vec Ideal S1024x768 .bf16) : ldX X = X :=
  View.ld_unit_zero (Val := Elt Ideal) (S := S1024x768) (e := .bf16) zero2 inb_S1024x768_S1024x768_0_0 X

/-- Loading the joined weights reads them. -/
theorem ldW_eq (W : Vec Ideal S1x768x2304 .bf16) : ldW W = W :=
  View.ld_unit_zero (Val := Elt Ideal) (S := S1x768x2304) (e := .bf16) zero3 inb_S1x768x2304_S1x768x2304_0_0_0 W

/-- Loading a layer's square matrix reads it. -/
theorem ldM_eq (W : Vec Ideal S1x768x768 .bf16) : ldM W = W :=
  View.ld_unit_zero (Val := Elt Ideal) (S := S1x768x768) (e := .bf16) zero3 inb_S1x768x768_S1x768x768_0_0_0 W

variable (x0 : Vec Ideal S2x512x768 .f32) (x1 : Vec Ideal S512x768 .f32) (x2 : Vec Ideal S1x768x2304 .bf16) (x3 x4 : Vec Ideal S1x768x768 .bf16)
  (xs0 : Vec Ideal S1024x768 .f32) (xs1 : Vec Ideal S1024x768 .bf16) (Y : Fin 2 → Seq)

/-- The rows a middle or last point leaves: one more layer on the rows it found. -/
theorem rowsB (h0 : ∀ b s o, xs0 (ix2 (rowOf b s) o) = Y b s o) (h1 : ∀ b s o, xs1 (ix2 (rowOf b s) o) = Y b s o)
    (b : Fin 2) (s : Fin 512) (o : Fin 768) :
    View.canon (outL (View.ld xs0 (rRect 0)) (View.ld xs0 (rRect 1)) (k0_pay14 (F := Ideal) (ldX xs1) (ldW x2)) (ldM x3) (ldM x4)) (ix2 (rowOf b s) o)
      = layerK (Y b) (wQ x2 0) (wQ x2 1) (wQ x2 2) (matT x3) (matT x4) s o := by
  rw [ldX_eq, ldW_eq, ldM_eq, ldM_eq]
  have h := outL_row (fun b => View.ld xs0 (rRect b)) xs1 x2 x3 x4 Y
    (fun b s o => (congrArg xs0 (rRect_idx b s o)).trans (h0 b s o)) h1 [] b s o
  rwa [List.append_nil] at h

/-- The rounded rows a middle or last point leaves are its rows. -/
theorem rowsBb (h0 : ∀ b s o, xs0 (ix2 (rowOf b s) o) = Y b s o) (h1 : ∀ b s o, xs1 (ix2 (rowOf b s) o) = Y b s o)
    (b : Fin 2) (s : Fin 512) (o : Fin 768) :
    View.canon (outLb (View.ld xs0 (rRect 0)) (View.ld xs0 (rRect 1)) (k0_pay14 (F := Ideal) (ldX xs1) (ldW x2)) (ldM x3) (ldM x4)) (ix2 (rowOf b s) o)
      = layerK (Y b) (wQ x2 0) (wQ x2 1) (wQ x2 2) (matT x3) (matT x4) s o := by
  have h := outLb_eq (View.ld xs0 (rRect 0)) (View.ld xs0 (rRect 1)) (k0_pay14 (F := Ideal) (ldX xs1) (ldW x2)) (ldM x3) (ldM x4) [] [] b s o
  rw [List.append_nil, List.append_nil] at h
  exact h.trans (rowsB x2 x3 x4 xs0 xs1 Y h0 h1 b s o)

/-- The rows a first point starts from: a sequence plus the positions. -/
abbrev start (b : Fin 2) : Seq := fun s o => x0 (ix3 b s o) + x1 (ix2 s o)

/-- A load of one sequence out of the pair. -/
theorem ldS (b : Fin 2) (inb) (s : Fin 512) (o : Fin 768) :
    View.ld (Val := Elt Ideal) (e' := .f32) x0 (Rect.unit ![b.val, 0, 0] S1x512x768.size inb) (ix3 0 s o) = x0 (ix3 b s o) := by
  refine congrArg x0 (funext fun a => Fin.ext ?_)
  match a with
  | ⟨0, _⟩ => show b.val + 1 * 0 = b.val; omega
  | ⟨1, _⟩ => show 0 + 1 * s.val = s.val; omega
  | ⟨2, _⟩ => show 0 + 1 * o.val = o.val; omega

/-- Loading the positions reads them. -/
theorem ldP : View.ld (Val := Elt Ideal) (e' := .f32) x1 (Rect.unit ![0, 0] S512x768.size inb_S512x768_S512x768_0_0) = x1 :=
  View.ld_unit_zero (Val := Elt Ideal) (S := S512x768) (e := .f32) zero2 inb_S512x768_S512x768_0_0 x1

/-- The first sequence plus the positions. -/
theorem pay9_apply (X : FVec Ideal S1x512x768 .f32) (P : FVec Ideal S512x768 .f32) (s : Fin 512) (o : Fin 768) :
    k0_pay9 (F := Ideal) X P (ix2 s o) = X (ix3 0 s o) + P (ix2 s o) := by
  pointwise [k0_pay9, k0_pay8]

/-- The second sequence plus the positions. -/
theorem pay12_apply (X : FVec Ideal S1x512x768 .f32) (P : FVec Ideal S512x768 .f32) (s : Fin 512) (o : Fin 768) :
    k0_pay12 (F := Ideal) X P (ix2 s o) = X (ix3 0 s o) + P (ix2 s o) := by
  pointwise [k0_pay12, k0_pay11]

/-- The first sequence plus the positions, rounded. -/
theorem pay10_apply (X : FVec Ideal S1x512x768 .f32) (P : FVec Ideal S512x768 .f32) (s : Fin 512) (o : Fin 768) :
    k0_pay10 (F := Ideal) X P (ix2 s o) = X (ix3 0 s o) + P (ix2 s o) := by
  pointwise [k0_pay10, k0_pay8]

/-- The second sequence plus the positions, rounded. -/
theorem pay13_apply (X : FVec Ideal S1x512x768 .f32) (P : FVec Ideal S512x768 .f32) (s : Fin 512) (o : Fin 768) :
    k0_pay13 (F := Ideal) X P (ix2 s o) = X (ix3 0 s o) + P (ix2 s o) := by
  pointwise [k0_pay13, k0_pay11]

/-- The first sequence's rows at the start. -/
theorem ini0_apply (s : Fin 512) (o : Fin 768) : ini0 x0 x1 (ix2 s o) = start x0 x1 0 s o :=
  (pay9_apply _ _ s o).trans (congrArg₂ (fun u v : EReal => u + v) (ldS x0 0 _ s o) (congrFun (ldP x1) (ix2 s o)))

/-- The second sequence's rows at the start. -/
theorem ini1_apply (s : Fin 512) (o : Fin 768) : ini1 x0 x1 (ix2 s o) = start x0 x1 1 s o :=
  (pay12_apply _ _ s o).trans (congrArg₂ (fun u v : EReal => u + v) (ldS x0 1 _ s o) (congrFun (ldP x1) (ix2 s o)))

/-- The rounded rows at the start. -/
theorem iniLb_apply (b : Fin 2) (s : Fin 512) (o : Fin 768) : View.canon (iniLb x0 x1) (ix2 (rowOf b s) o) = start x0 x1 b s o := by
  rcases two b with rfl | rfl
  · refine (canon_miss (e := .bf16) _ _ s o).trans ((canon_hit (e := .bf16) 0 _ _ s o).trans ?_)
    exact (pay10_apply _ _ s o).trans (congrArg₂ (fun u v : EReal => u + v) (ldS x0 0 _ s o) (congrFun (ldP x1) (ix2 s o)))
  · refine (canon_hit (e := .bf16) 1 _ _ s o).trans ?_
    exact (pay13_apply _ _ s o).trans (congrArg₂ (fun u v : EReal => u + v) (ldS x0 1 _ s o) (congrFun (ldP x1) (ix2 s o)))

/-- The rows a first point leaves: one layer on the sequences plus the positions. -/
theorem rowsA (b : Fin 2) (s : Fin 512) (o : Fin 768) :
    View.canon (outL (ini0 x0 x1) (ini1 x0 x1) (k0_pay14 (F := Ideal) (ldX (View.canon (iniLb x0 x1))) (ldW x2)) (ldM x3) (ldM x4) ++ iniL x0 x1)
        (ix2 (rowOf b s) o)
      = layerK (start x0 x1 b) (wQ x2 0) (wQ x2 1) (wQ x2 2) (matT x3) (matT x4) s o := by
  rw [ldX_eq, ldW_eq, ldM_eq, ldM_eq]
  refine outL_row (fun b => match b with | 0 => ini0 x0 x1 | 1 => ini1 x0 x1) (View.canon (iniLb x0 x1)) x2 x3 x4 (start x0 x1) ?_ (iniLb_apply x0 x1)
    (iniL x0 x1) b s o
  intro b s o
  rcases two b with rfl | rfl
  · exact ini0_apply x0 x1 s o
  · exact ini1_apply x0 x1 s o

/-- The rounded rows a first point leaves are its rows. -/
theorem rowsAb (b : Fin 2) (s : Fin 512) (o : Fin 768) :
    View.canon (outLb (ini0 x0 x1) (ini1 x0 x1) (k0_pay14 (F := Ideal) (ldX (View.canon (iniLb x0 x1))) (ldW x2)) (ldM x3) (ldM x4) ++ iniLb x0 x1)
        (ix2 (rowOf b s) o)
      = layerK (start x0 x1 b) (wQ x2 0) (wQ x2 1) (wQ x2 2) (matT x3) (matT x4) s o :=
  (outLb_eq (ini0 x0 x1) (ini1 x0 x1) (k0_pay14 (F := Ideal) (ldX (View.canon (iniLb x0 x1))) (ldW x2)) (ldM x3) (ldM x4) (iniL x0 x1) (iniLb x0 x1) b s o).trans
    (rowsA x0 x1 x2 x3 x4 b s o)

/-- One sequence's place in the result block. -/
abbrev oRect (b : Fin 2) : Rect S2x1x256 :=
  Rect.unit ![b.val, 0, 0] S1x1x256.size (by
    intro a; have := b.isLt; fin_cases a
    · show b.val + 1 ≤ 2; omega
    · show 0 + 1 ≤ 1; omega
    · show 0 + 256 ≤ 256; omega)

/-- Where a result element sits in the block. -/
theorem oRect_idx (b : Fin 2) (o : Fin 256) : (oRect b).idx (ix3 0 0 o) = ix3 b 0 o := by
  refine funext fun a => Fin.ext ?_
  match a with
  | ⟨0, _⟩ => show b.val + 1 * 0 = b.val; omega
  | ⟨1, _⟩ => show 0 + 1 * 0 = 0; omega
  | ⟨2, _⟩ => show 0 + 1 * o.val = o.val; omega

/-- The first sequence's result is outside the second's place. -/
theorem oRect_not_mem (o : Fin 256) : (ix3 0 0 o : S2x1x256.Idx) ∉ (oRect 1).set := by
  intro h
  obtain ⟨j, _, hj⟩ := (LoadRect.mem_set _).mp h 0
  have : 0 = 1 + 1 * j := hj
  omega

/-- A result element under the last store reads that store. -/
theorem ocanon_hit (b : Fin 2) (f : S1x1x256.Idx → Elt Ideal .f32) (L : List (View.Piece (Elt Ideal) S2x1x256 .f32)) (o : Fin 256) :
    View.canon (⟨oRect b, f⟩ :: L) (ix3 b 0 o) = f (ix3 0 0 o) :=
  (congrArg (View.canon (⟨oRect b, f⟩ :: L)) (oRect_idx b o).symm).trans (View.canon_cons_emb (oRect b) f L (ix3 0 0 o))

/-- The first sequence's result passes the second's store. -/
theorem ocanon_miss (f : S1x1x256.Idx → Elt Ideal .f32) (L : List (View.Piece (Elt Ideal) S2x1x256 .f32)) (o : Fin 256) :
    View.canon (⟨oRect 1, f⟩ :: L) (ix3 0 0 o) = View.canon L (ix3 0 0 o) :=
  View.canon_cons_of_not_mem ⟨oRect 1, f⟩ L (oRect_not_mem o)

/-- The transformed rows of a sequence. -/
def trans (Y : Seq) (W : Wt) : Seq := fun s o => Ideal.tanh (proj (Y s) W o)

/-- The kernel's result row of a sequence. -/
def resK (Y : Seq) (W : Wt) (g : Fin 768 → EReal) (A : Fin 768 → Fin 256 → EReal) (f : Fin 16 → EReal) (B : Fin 16 → Fin 256 → EReal)
    (o : Fin 256) : EReal :=
  Ideal.tanh (∑ j, poolK (trans Y W) g j * A j o + ∑ k, f k * B k o)

variable (X : FVec Ideal S1024x768 .bf16) (x5 : Vec Ideal S768x768 .bf16) (x6 : Vec Ideal S1x768 .f32) (x7 : Vec Ideal S768x256 .f32)
    (x8 : Vec Ideal S16x256 .f32) (x9 : Vec Ideal S2x1x16 .f32)

/-- A load of one sequence's features out of the pair. -/
theorem ldF (b : Fin 2) (inb) (k : Fin 16) :
    View.ld (Val := Elt Ideal) (e' := .f32) x9 (Rect.unit ![b.val, 0, 0] S1x1x16.size inb) (ix3 0 0 k) = x9 (ix3 b 0 k) := by
  refine congrArg x9 (funext fun a => Fin.ext ?_)
  match a with
  | ⟨0, _⟩ => show b.val + 1 * 0 = b.val; omega
  | ⟨1, _⟩ => show 0 + 1 * 0 = 0; omega
  | ⟨2, _⟩ => show 0 + 1 * k.val = k.val; omega

/-- The pooling of transformed rows gives the sequence's result row. -/
theorem pool_res (T : FVec Ideal S512x768 .f32) (g : FVec Ideal S1x768 .f32) (A : FVec Ideal S768x256 .f32) (f : FVec Ideal S1x1x16 .f32)
    (B : FVec Ideal S16x256 .f32) (Z : Seq) (W : Wt) (f' : Fin 16 → EReal) (hT : ∀ s o, T (ix2 s o) = trans Z W s o) (hf : ∀ k, f (ix3 0 0 k) = f' k)
    (o : Fin 256) :
    k0_pay4 (F := Ideal) T g A f B (ix3 0 0 o)
      = resK Z W (fun j => g (ix2 0 j)) (fun j o => A (ix2 j o)) f' (fun k o => B (ix2 k o)) o := by
  rw [pool_apply]
  unfold resK
  have e : (fun s o => T (ix2 s o)) = trans Z W := funext fun s => funext fun o => hT s o
  rw [e]
  simp only [hf]

/-- The transformed rows of one sequence, cut out of the buffer's. -/
theorem cut_rows (b : Fin 2) (h) (hX : ∀ b s o, X (ix2 (rowOf b s) o) = Y b s o) (s : Fin 512) (o : Fin 768) :
    extractStridedSlice S512x768 ![512 * b.val, 0] (k0_pay5 (F := Ideal) X x5) h (ix2 s o) = trans (Y b) (fun o i => x5 (ix2 i o)) s o := by
  refine (extractStridedSlice_apply _ _ h (ix2 s o) (ix2 (rowOf b s) o) ?_).trans ?_
  · intro a
    match a with
    | ⟨0, _⟩ => rfl
    | ⟨1, _⟩ => show o.val = 0 + o.val; omega
  · rw [tanh_apply]
    unfold trans proj
    simp only [hX]

/-- The result rows of a last point. -/
theorem resC (hX : ∀ b s o, X (ix2 (rowOf b s) o) = Y b s o) (b : Fin 2) (o : Fin 256) :
    View.canon (outR (ldX X) x5 x6 x7 x8 x9) (ix3 b 0 o)
      = resK (Y b) (fun o i => x5 (ix2 i o)) (fun j => x6 (ix2 0 j)) (fun j o => x7 (ix2 j o)) (fun k => x9 (ix3 b 0 k)) (fun k o => x8 (ix2 k o)) o := by
  have e5 := View.ld_unit_zero (Val := Elt Ideal) (S := S768x768) (e := .bf16) zero2 inb_S768x768_S768x768_0_0 x5
  have e6 := View.ld_unit_zero (Val := Elt Ideal) (S := S1x768) (e := .f32) zero2 inb_S1x768_S1x768_0_0 x6
  have e7 := View.ld_unit_zero (Val := Elt Ideal) (S := S768x256) (e := .f32) zero2 inb_S768x256_S768x256_0_0 x7
  have e8 := View.ld_unit_zero (Val := Elt Ideal) (S := S16x256) (e := .f32) zero2 inb_S16x256_S16x256_0_0 x8
  unfold outR
  rw [ldX_eq, e5, e6, e7, e8]
  rcases two b with rfl | rfl
  · refine (ocanon_miss _ _ o).trans ((ocanon_hit 0 _ _ o).trans ?_)
    rw [pay6_eq]
    exact pool_res _ x6 x7 _ x8 (Y 0) _ _ (cut_rows Y X x5 0 slices_S1024x768_o0_0_S512x768 hX) (ldF x9 0 _) o
  · refine (ocanon_hit 1 _ _ o).trans ?_
    exact pool_res (k0_pay7 (F := Ideal) X x5) x6 x7 _ x8 (Y 1) _ _ (cut_rows Y X x5 1 slices_S1024x768_o512_0_S512x768 hX) (ldF x9 1 _) o

end Cert.Enc.Ker
-- ==== Proof.Enc.Host.lean ====
module

public import proofs.«01_k».proof.Proof.Enc.KerHeads
public import proofs.«01_k».proof.Proof.Gen.KernelIdeal.Value
public import proofs.«01_k».proof.Proof.Gen.ReferenceIdeal.Read
public import Idealize.ShloMosaic.Lib.Claim
public import Idealize.ShloMosaic.Lib.Pointwise

/-!
The arrays the host prepares before the kernel starts, read at an index from the arguments.
-/

@[expose] public section

noncomputable section

namespace Cert.Enc.Ker

open Idealize.ShloMosaic Idealize.ShloMosaic.Tactic Idealize.ShloMosaic.TcCoe
open Cert.KernelIdeal Cert.KernelIdeal.Gen

variable (m : (ℓ : Loc nD τ sig) → Buf (Elt Ideal) ℓ) (c : Dev nD)

/-- The buffers before the last stretch of host operations. -/
def pre : Valuation τ sig (Elt Ideal) :=
  StableHlo.after (List.flatten [hostOps0, hostOps0_1, hostOps0_2, hostOps0_3, hostOps0_4, hostOps0_5]) (fun b => m (c, b))

/-- Two lines of host operations, one after the other. -/
theorem after_two (l k : List (HloOp τ sig (Elt Ideal))) (σ : Valuation τ sig (Elt Ideal)) :
    StableHlo.after (l ++ k) σ = StableHlo.after k (StableHlo.after l σ) := by
  induction l generalizing σ with
  | nil => rfl
  | cons op l ih => exact ih _

/-- The last stretch starts from the buffers before it. -/
theorem V_last (b : DevRef τ sig) :
    StableHlo.after (List.flatten [hostOps0, hostOps0_1, hostOps0_2, hostOps0_3, hostOps0_4, hostOps0_5, hostOps0_6]) (fun b => m (c, b)) b
      = StableHlo.after hostOps0_6 (pre m c) b := by
  refine (congrFun ?_ b)
  have h : (List.flatten [hostOps0, hostOps0_1, hostOps0_2, hostOps0_3, hostOps0_4, hostOps0_5, hostOps0_6] : List (HloOp τ sig (Elt Ideal)))
      = List.flatten [hostOps0, hostOps0_1, hostOps0_2, hostOps0_3, hostOps0_4, hostOps0_5] ++ hostOps0_6 := by
    simp only [List.flatten_cons, List.flatten_nil, List.append_nil, List.append_assoc]
  rw [h]
  exact after_two _ _ _

/-- The table of positions is the one the textbook program computes. -/
theorem V20 : (V (F := Ideal) m c main_v20 : FVec Ideal S512x768 .f32) = Cert.ReferenceIdeal.Read.val_main_v20 (F := Ideal) := by
  simp only [V, hostOps0, hostOps0_1, hostOps0_2, hostOps0_3, hostOps0_4, hostOps0_5, hostOps0_6, List.flatten_cons, List.flatten_nil,
    List.append_nil, List.cons_append, List.nil_append, StableHlo.after_cons, StableHlo.after_nil]
  after_results_simp
  rfl

/-- The first feed-forward matrices, transposed. -/
theorem V27 (l : Fin 4) (i o : Fin 768) : (V (F := Ideal) m c main_v27 : FVec Ideal S4x768x768 .bf16) (ix3 l i o)
      = (m ((c.tc : Thread nD τ).loc main_arg7) : FVec Ideal S4x768x768 .f32) (ix3 l o i) := by
  rw [← V_main_arg7 (F := Ideal) m c, V, V, V_last, V_last]
  unfold hostOps0_6
  simp only [StableHlo.after_cons, StableHlo.after_nil]
  after_results_simp
  pointwise

/-- The second feed-forward matrices, transposed. -/
theorem V29 (l : Fin 4) (i o : Fin 768) : (V (F := Ideal) m c main_v29 : FVec Ideal S4x768x768 .bf16) (ix3 l i o)
      = (m ((c.tc : Thread nD τ).loc main_arg9) : FVec Ideal S4x768x768 .f32) (ix3 l o i) := by
  rw [← V_main_arg9 (F := Ideal) m c, V, V, V_last, V_last]
  unfold hostOps0_6
  simp only [StableHlo.after_cons, StableHlo.after_nil]
  after_results_simp
  pointwise

/-- The last transformation, transposed. -/
theorem V31 (i o : Fin 768) : (V (F := Ideal) m c main_v31 : FVec Ideal S768x768 .bf16) (ix2 i o)
      = (m ((c.tc : Thread nD τ).loc main_arg13) : FVec Ideal S768x768 .f32) (ix2 o i) := by
  rw [← V_main_arg13 (F := Ideal) m c, V, V, V_last, V_last]
  unfold hostOps0_6
  simp only [StableHlo.after_cons, StableHlo.after_nil]
  after_results_simp
  pointwise

/-- The upper part of the output matrix, transposed. -/
theorem V33 (j : Fin 768) (o : Fin 256) : (V (F := Ideal) m c main_v33 : FVec Ideal S768x256 .f32) (ix2 j o)
      = (m ((c.tc : Thread nD τ).loc main_arg16) : FVec Ideal S256x784 .f32) (ix2 o (Fin.castAdd 16 j)) := by
  rw [← V_main_arg16 (F := Ideal) m c, V, V, V_last, V_last]
  unfold hostOps0_6
  simp only [StableHlo.after_cons, StableHlo.after_nil]
  after_results_simp
  pointwise
  rfl

/-- The lower part of the output matrix, transposed. -/
theorem V34 (k : Fin 16) (o : Fin 256) : (V (F := Ideal) m c main_v34 : FVec Ideal S16x256 .f32) (ix2 k o)
      = (m ((c.tc : Thread nD τ).loc main_arg16) : FVec Ideal S256x784 .f32) (ix2 o (Fin.natAdd 768 k)) := by
  rw [← V_main_arg16 (F := Ideal) m c, V, V, V_last, V_last]
  unfold hostOps0_6
  simp only [StableHlo.after_cons, StableHlo.after_nil]
  after_results_simp
  pointwise
  rfl

/-- The extra features, one row to a sequence. -/
theorem V35 (n : Fin 32) (k : Fin 16) : (V (F := Ideal) m c main_v35 : FVec Ideal S32x1x16 .f32) (ix3 n 0 k)
      = (m ((c.tc : Thread nD τ).loc main_arg1) : FVec Ideal S32x16 .f32) (ix2 n k) := by
  rw [← V_main_arg1 (F := Ideal) m c, V, V, V_last, V_last]
  unfold hostOps0_6
  simp only [StableHlo.after_cons, StableHlo.after_nil]
  after_results_simp
  pointwise

/-- The query weights are still the argument's before the last stretch. -/
theorem pre_arg2 : pre m c (Proc.devRef .tc main_arg2) = m ((c.tc : Thread nD τ).loc main_arg2) := by
  rw [← V_main_arg2 (F := Ideal) m c, V, V_last]
  unfold hostOps0_6
  simp only [StableHlo.after_cons, StableHlo.after_nil]
  after_results_simp

/-- The key weights are still the argument's before the last stretch. -/
theorem pre_arg3 : pre m c (Proc.devRef .tc main_arg3) = m ((c.tc : Thread nD τ).loc main_arg3) := by
  rw [← V_main_arg3 (F := Ideal) m c, V, V_last]
  unfold hostOps0_6
  simp only [StableHlo.after_cons, StableHlo.after_nil]
  after_results_simp

/-- The value weights are still the argument's before the last stretch. -/
theorem pre_arg4 : pre m c (Proc.devRef .tc main_arg4) = m ((c.tc : Thread nD τ).loc main_arg4) := by
  rw [← V_main_arg4 (F := Ideal) m c, V, V_last]
  unfold hostOps0_6
  simp only [StableHlo.after_cons, StableHlo.after_nil]
  after_results_simp

/-- The three projections side by side, transposed. -/
theorem V25 (l : Fin 4) (i : Fin 768) (n : Fin 2304) : (V (F := Ideal) m c main_v25 : FVec Ideal S4x768x2304 .bf16) (ix3 l i n)
      = if h : n.val < 768 then (m ((c.tc : Thread nD τ).loc main_arg2) : FVec Ideal S4x768x768 .f32) (ix3 l ⟨n.val, h⟩ i)
        else if h : n.val - 768 < 768 then (m ((c.tc : Thread nD τ).loc main_arg3) : FVec Ideal S4x768x768 .f32) (ix3 l ⟨n.val - 768, h⟩ i)
        else (m ((c.tc : Thread nD τ).loc main_arg4) : FVec Ideal S4x768x768 .f32) (ix3 l ⟨n.val - 768 - 768, by omega⟩ i) := by
  rw [← pre_arg2 m c, ← pre_arg3 m c, ← pre_arg4 m c, V, V_last]
  unfold hostOps0_6
  simp only [StableHlo.after_cons, StableHlo.after_nil]
  after_results_simp
  pointwise
  after_results_simp
  pointwise

end Cert.Enc.Ker
-- ==== Proof.Enc.Blocks.lean ====
module

public import proofs.«01_k».proof.Proof.Enc.KerRows
public import proofs.«01_k».proof.Proof.Enc.Host
public import proofs.«01_k».proof.Proof.Gen.KernelIdeal.Value
public import Idealize.ShloMosaic.Lib.Pipeline.ValueKit.Point
public import Idealize.ShloMosaic.Lib.Claim

/-!
The blocks each grid point finds, read at an index from the arguments.
-/

@[expose] public section

noncomputable section

namespace Cert.Enc.Ker

open Idealize.ShloMosaic Idealize.ShloMosaic.Tactic Idealize.ShloMosaic.TcCoe
open Cert.KernelIdeal Cert.KernelIdeal.Gen

/-- The layer a grid point works on. -/
abbrev lay (t : Fin cfg0.N) : Fin 4 := ⟨t.val % 4, Nat.mod_lt _ (by decide)⟩

/-- The sequence of the batch that sits at place `b` of the pair a grid point works on. -/
abbrev bat (t : Fin cfg0.N) (b : Fin 2) : Fin 32 :=
  ⟨2 * (t.val / 4) + b.val, by have h : t.val < 64 := t.isLt; omega⟩

/-- Where the sequence window stands at each grid point. -/
theorem at0 : ∀ t : Fin cfg0.N, win0_0.index t = ![t.val / 4, 0, 0] :=
  (by decide +kernel : ∀ t : Fin grid0.N, _)

/-- Where the position window stands at each grid point. -/
theorem at1 : ∀ t : Fin cfg0.N, win0_1.index t = ![0, 0] :=
  (by decide +kernel : ∀ t : Fin grid0.N, _)

/-- Where the window of the three projections stands at each grid point. -/
theorem at2 : ∀ t : Fin cfg0.N, win0_2.index t = ![t.val % 4, 0, 0] :=
  (by decide +kernel : ∀ t : Fin grid0.N, _)

/-- Where the window of the first feed-forward matrix stands at each grid point. -/
theorem at3 : ∀ t : Fin cfg0.N, win0_3.index t = ![t.val % 4, 0, 0] :=
  (by decide +kernel : ∀ t : Fin grid0.N, _)

/-- Where the window of the second feed-forward matrix stands at each grid point. -/
theorem at4 : ∀ t : Fin cfg0.N, win0_4.index t = ![t.val % 4, 0, 0] :=
  (by decide +kernel : ∀ t : Fin grid0.N, _)

/-- Where the window of the last transformation stands at each grid point. -/
theorem at5 : ∀ t : Fin cfg0.N, win0_5.index t = ![0, 0] :=
  (by decide +kernel : ∀ t : Fin grid0.N, _)

/-- Where the window of the pooling vector stands at each grid point. -/
theorem at6 : ∀ t : Fin cfg0.N, win0_6.index t = ![0, 0] :=
  (by decide +kernel : ∀ t : Fin grid0.N, _)

/-- Where the window of the upper part of the output matrix stands at each grid point. -/
theorem at7 : ∀ t : Fin cfg0.N, win0_7.index t = ![0, 0] :=
  (by decide +kernel : ∀ t : Fin grid0.N, _)

/-- Where the window of the lower part of the output matrix stands at each grid point. -/
theorem at8 : ∀ t : Fin cfg0.N, win0_8.index t = ![0, 0] :=
  (by decide +kernel : ∀ t : Fin grid0.N, _)

/-- Where the window of the extra features stands at each grid point. -/
theorem at9 : ∀ t : Fin cfg0.N, win0_9.index t = ![t.val / 4, 0, 0] :=
  (by decide +kernel : ∀ t : Fin grid0.N, _)

variable (m : (ℓ : Loc nD τ sig) → Buf (Elt Ideal) ℓ) (c : Dev nD)

/-- A sequence block is two sequences of the batch. -/
theorem blk0 (t : Fin cfg0.N) (b : Fin 2) (s : Fin 512) (o : Fin 768) :
    iblk (F := Ideal) m c 0 t (ix3 b s o) = (m ((c.tc : Thread nD τ).loc main_arg0) : FVec Ideal S32x512x768 .f32) (ix3 (bat t b) s o) := by
  refine Eq.trans ?_ (congrFun (V_main_arg0 (F := Ideal) m c) _)
  blk_ext [iblk, at0 t]

/-- The position block is the whole table of positions. -/
theorem blk1 (t : Fin cfg0.N) (s : Fin 512) (o : Fin 768) :
    iblk (F := Ideal) m c 1 t (ix2 s o) = (V (F := Ideal) m c main_v20 : FVec Ideal S512x768 .f32) (ix2 s o) := by
  blk_ext [iblk, at1 t]

/-- The pooling block is the whole pooling vector. -/
theorem blk6 (t : Fin cfg0.N) (o : Fin 768) :
    iblk (F := Ideal) m c 6 t (ix2 0 o) = (m ((c.tc : Thread nD τ).loc main_arg15) : FVec Ideal S1x768 .f32) (ix2 0 o) := by
  refine Eq.trans ?_ (congrFun (V_main_arg15 (F := Ideal) m c) _)
  blk_ext [iblk, at6 t]

/-- The first feed-forward block is the layer's matrix, transposed. -/
theorem blk3 (t : Fin cfg0.N) (i o : Fin 768) : iblk (F := Ideal) m c 3 t (ix3 0 i o)
      = (m ((c.tc : Thread nD τ).loc main_arg7) : FVec Ideal S4x768x768 .f32) (ix3 (lay t) o i) := by
  refine Eq.trans (b := (V (F := Ideal) m c main_v27 : FVec Ideal S4x768x768 .bf16) (ix3 (lay t) i o)) ?_ (V27 m c (lay t) i o)
  blk_ext [iblk, at3 t]

/-- The second feed-forward block is the layer's matrix, transposed. -/
theorem blk4 (t : Fin cfg0.N) (i o : Fin 768) : iblk (F := Ideal) m c 4 t (ix3 0 i o)
      = (m ((c.tc : Thread nD τ).loc main_arg9) : FVec Ideal S4x768x768 .f32) (ix3 (lay t) o i) := by
  refine Eq.trans (b := (V (F := Ideal) m c main_v29 : FVec Ideal S4x768x768 .bf16) (ix3 (lay t) i o)) ?_ (V29 m c (lay t) i o)
  blk_ext [iblk, at4 t]

/-- The block of the last transformation is its matrix, transposed. -/
theorem blk5 (t : Fin cfg0.N) (i o : Fin 768) : iblk (F := Ideal) m c 5 t (ix2 i o)
      = (m ((c.tc : Thread nD τ).loc main_arg13) : FVec Ideal S768x768 .f32) (ix2 o i) := by
  refine Eq.trans (b := (V (F := Ideal) m c main_v31 : FVec Ideal S768x768 .bf16) (ix2 i o)) ?_ (V31 m c i o)
  blk_ext [iblk, at5 t]

/-- The upper output block is the output matrix's first columns, transposed. -/
theorem blk7 (t : Fin cfg0.N) (j : Fin 768) (o : Fin 256) : iblk (F := Ideal) m c 7 t (ix2 j o)
      = (m ((c.tc : Thread nD τ).loc main_arg16) : FVec Ideal S256x784 .f32) (ix2 o (Fin.castAdd 16 j)) := by
  refine Eq.trans (b := (V (F := Ideal) m c main_v33 : FVec Ideal S768x256 .f32) (ix2 j o)) ?_ (V33 m c j o)
  blk_ext [iblk, at7 t]

/-- The lower output block is the output matrix's last columns, transposed. -/
theorem blk8 (t : Fin cfg0.N) (k : Fin 16) (o : Fin 256) : iblk (F := Ideal) m c 8 t (ix2 k o)
      = (m ((c.tc : Thread nD τ).loc main_arg16) : FVec Ideal S256x784 .f32) (ix2 o (Fin.natAdd 768 k)) := by
  refine Eq.trans (b := (V (F := Ideal) m c main_v34 : FVec Ideal S16x256 .f32) (ix2 k o)) ?_ (V34 m c k o)
  blk_ext [iblk, at8 t]

/-- A features block is two rows of the features. -/
theorem blk9 (t : Fin cfg0.N) (b : Fin 2) (k : Fin 16) : iblk (F := Ideal) m c 9 t (ix3 b 0 k)
      = (m ((c.tc : Thread nD τ).loc main_arg1) : FVec Ideal S32x16 .f32) (ix2 (bat t b) k) := by
  refine Eq.trans (b := (V (F := Ideal) m c main_v35 : FVec Ideal S32x1x16 .f32) (ix3 (bat t b) 0 k)) ?_ (V35 m c (bat t b) k)
  blk_ext [iblk, at9 t]

/-- The joined block of weights is the layer's columns of the joined array. -/
theorem blk2 (t : Fin cfg0.N) (i : Fin 768) (n : Fin 2304) :
    iblk (F := Ideal) m c 2 t (ix3 0 i n) = (V (F := Ideal) m c main_v25 : FVec Ideal S4x768x2304 .bf16) (ix3 (lay t) i n) := by
  blk_ext [iblk, at2 t]

/-- One layer's matrix out of a stack of four. -/
def wt (A : FVec Ideal S4x768x768 .f32) (l : Fin 4) : Wt := fun o i => A (ix3 l o i)

/-- The query part of the joined block. -/
theorem blkQ (t : Fin cfg0.N) : wQ (iblk (F := Ideal) m c 2 t) 0 = wt (m ((c.tc : Thread nD τ).loc main_arg2)) (lay t) := by
  funext o i
  refine (blk2 m c t i (colOf 0 o)).trans ((V25 m c (lay t) i (colOf 0 o)).trans ?_)
  have h : (colOf 0 o).val = o.val := by show 768 * 0 + o.val = o.val; omega
  have e : (⟨(colOf 0 o).val, by rw [h]; exact o.isLt⟩ : Fin 768) = o := Fin.ext h
  rw [dif_pos (by rw [h]; exact o.isLt)]
  exact congrArg (fun z => (m ((c.tc : Thread nD τ).loc main_arg2) : FVec Ideal S4x768x768 .f32) (ix3 (lay t) z i)) e

/-- The key part of the joined block. -/
theorem blkK (t : Fin cfg0.N) : wQ (iblk (F := Ideal) m c 2 t) 1 = wt (m ((c.tc : Thread nD τ).loc main_arg3)) (lay t) := by
  funext o i
  refine (blk2 m c t i (colOf 1 o)).trans ((V25 m c (lay t) i (colOf 1 o)).trans ?_)
  have h : (colOf 1 o).val = 768 + o.val := by show 768 * 1 + o.val = 768 + o.val; omega
  have hl := o.isLt
  have e : (⟨(colOf 1 o).val - 768, by omega⟩ : Fin 768) = o := Fin.ext (by show (colOf 1 o).val - 768 = o.val; omega)
  rw [dif_neg (by omega), dif_pos (by omega)]
  exact congrArg (fun z => (m ((c.tc : Thread nD τ).loc main_arg3) : FVec Ideal S4x768x768 .f32) (ix3 (lay t) z i)) e

/-- The value part of the joined block. -/
theorem blkV (t : Fin cfg0.N) : wQ (iblk (F := Ideal) m c 2 t) 2 = wt (m ((c.tc : Thread nD τ).loc main_arg4)) (lay t) := by
  funext o i
  refine (blk2 m c t i (colOf 2 o)).trans ((V25 m c (lay t) i (colOf 2 o)).trans ?_)
  have h : (colOf 2 o).val = 1536 + o.val := by show 768 * 2 + o.val = 1536 + o.val; omega
  have hl := o.isLt
  have e : (⟨(colOf 2 o).val - 768 - 768, by omega⟩ : Fin 768) = o := Fin.ext (by show (colOf 2 o).val - 768 - 768 = o.val; omega)
  rw [dif_neg (by omega), dif_neg (by omega)]
  exact congrArg (fun z => (m ((c.tc : Thread nD τ).loc main_arg4) : FVec Ideal S4x768x768 .f32) (ix3 (lay t) z i)) e

/-- The first feed-forward block as a matrix. -/
theorem blkM1 (t : Fin cfg0.N) : matT (iblk (F := Ideal) m c 3 t) = wt (m ((c.tc : Thread nD τ).loc main_arg7)) (lay t) :=
  funext fun o => funext fun i => blk3 m c t i o

/-- The second feed-forward block as a matrix. -/
theorem blkM2 (t : Fin cfg0.N) : matT (iblk (F := Ideal) m c 4 t) = wt (m ((c.tc : Thread nD τ).loc main_arg9)) (lay t) :=
  funext fun o => funext fun i => blk4 m c t i o

/-- A sequence of a batch plus a table of positions. -/
def plus (x : FVec Ideal S32x512x768 .f32) (p : FVec Ideal S512x768 .f32) (n : Fin 32) : Seq := fun s o => x (ix3 n s o) + p (ix2 s o)

/-- A sequence of the batch plus the positions. -/
def X0 (n : Fin 32) : Seq := plus (m ((c.tc : Thread nD τ).loc main_arg0)) (Cert.ReferenceIdeal.Read.val_main_v20 (F := Ideal)) n

/-- The rows a first point starts from. -/
theorem blkX (t : Fin cfg0.N) (b : Fin 2) : start (iblk (F := Ideal) m c 0 t) (iblk (F := Ideal) m c 1 t) b = X0 m c (bat t b) :=
  funext fun s => funext fun o => congrArg₂ (fun u v : EReal => u + v) (blk0 m c t b s o) ((blk1 m c t s o).trans (congrFun (V20 m c) (ix2 s o)))

end Cert.Enc.Ker
-- ==== Proof.Enc.Grid.lean ====
module

public import proofs.«01_k».proof.Proof.Enc.Blocks

/-!
The grid: after its `l`-th layer a pair of sequences holds `l` layers of the encoder, and the array of results holds
every sequence's result row.
-/

@[expose] public section

noncomputable section

namespace Cert.Enc.Ker

open Cert.KernelIdeal Cert.KernelIdeal.Gen Cert.KernelIdeal.Value
open Idealize.ShloMosaic Idealize.ShloMosaic.TcCoe Idealize.SL.Sem

/-- The layers up to a number, one after the other. -/
def enc (f : Fin 4 → Seq → Seq) : ℕ → Seq → Seq
  | 0, X => X
  | k + 1, X => f ⟨k % 4, Nat.mod_lt _ (by decide)⟩ (enc f k X)

variable (m : (ℓ : Loc nD τ sig) → Buf (Elt Ideal) ℓ) (c : Dev nD)

/-- One layer of the kernel, with the arguments' weights. -/
def stK (l : Fin 4) (X : Seq) : Seq :=
  layerK X (wt (m ((c.tc : Thread nD τ).loc main_arg2)) l) (wt (m ((c.tc : Thread nD τ).loc main_arg3)) l) (wt (m ((c.tc : Thread nD τ).loc main_arg4)) l)
    (wt (m ((c.tc : Thread nD τ).loc main_arg7)) l) (wt (m ((c.tc : Thread nD τ).loc main_arg9)) l)

/-- A layer with the blocks' weights is a layer with the arguments'. -/
theorem layer_blk (t : Fin cfg0.N) (X : Seq) :
    layerK X (wQ (iblk (F := Ideal) m c 2 t) 0) (wQ (iblk (F := Ideal) m c 2 t) 1) (wQ (iblk (F := Ideal) m c 2 t) 2)
      (matT (iblk (F := Ideal) m c 3 t)) (matT (iblk (F := Ideal) m c 4 t)) = stK m c (lay t) X := by
  unfold stK
  rw [blkQ, blkK, blkV, blkM1, blkM2]

/-- A pair of row buffers holds the layers up to `k` of two sequences. -/
def Holds (k : ℕ) (q : Fin 2 → Fin 32) (A : Vec Ideal S1024x768 .f32) (B : Vec Ideal S1024x768 .bf16) : Prop :=
  (∀ b s o, A (ix2 (rowOf b s) o) = enc (stK m c) k (X0 m c (q b)) s o)
    ∧ ∀ b s o, B (ix2 (rowOf b s) o) = enc (stK m c) k (X0 m c (q b)) s o

/-- The layers up to the one a grid point works on. -/
theorem enc_lay (t : Fin cfg0.N) (X : Seq) : enc (stK m c) (t.val % 4 + 1) X = stK m c (lay t) (enc (stK m c) (t.val % 4) X) := by
  have h : (⟨t.val % 4 % 4, Nat.mod_lt _ (by decide)⟩ : Fin 4) = lay t := Fin.ext (Nat.mod_mod _ _)
  show stK m c ⟨t.val % 4 % 4, _⟩ _ = _
  rw [h]

/-- A first point leaves one layer. -/
theorem holdA (t : Fin cfg0.N) (h0 : t.val % 4 = 0) (h1 : ¬t.val % 4 = 3) :
    Holds m c (t.val % 4 + 1) (bat t) (outsAt0 (F := Ideal) m c t.val t.isLt).2.1 (outsAt0 (F := Ideal) m c t.val t.isLt).2.2 := by
  have e0 := congrArg (fun z => z.2.1) (outsAt0_A (F := Ideal) m c t h0 h1)
  have e1 := congrArg (fun z => z.2.2) (outsAt0_A (F := Ideal) m c t h0 h1)
  simp only [sA0] at e0
  simp only [sA1] at e1
  have hz : ∀ X, enc (stK m c) (t.val % 4) X = X := fun X => by rw [h0]; rfl
  refine ⟨fun b s o => ?_, fun b s o => ?_⟩
  · refine (congrFun e0 _).trans ((rowsA _ _ _ _ _ b s o).trans ?_)
    rw [layer_blk, blkX, enc_lay, hz]
  · refine (congrFun e1 _).trans ((rowsAb _ _ _ _ _ b s o).trans ?_)
    rw [layer_blk, blkX, enc_lay, hz]

/-- A middle point leaves one layer more than it found. -/
theorem holdB (t : Fin cfg0.N) (h0 : ¬t.val % 4 = 0) (h1 : ¬t.val % 4 = 3)
    (hp : Holds m c (t.val % 4) (bat t) (outsAt0 (F := Ideal) m c (t.val - 1) (Nat.lt_of_le_of_lt (Nat.sub_le _ _) t.isLt)).2.1
      (outsAt0 (F := Ideal) m c (t.val - 1) (Nat.lt_of_le_of_lt (Nat.sub_le _ _) t.isLt)).2.2) :
    Holds m c (t.val % 4 + 1) (bat t) (outsAt0 (F := Ideal) m c t.val t.isLt).2.1 (outsAt0 (F := Ideal) m c t.val t.isLt).2.2 := by
  have e0 := congrArg (fun z => z.2.1) (outsAt0_B (F := Ideal) m c t h0 h1)
  have e1 := congrArg (fun z => z.2.2) (outsAt0_B (F := Ideal) m c t h0 h1)
  simp only [sB0] at e0
  simp only [sB1] at e1
  refine ⟨fun b s o => ?_, fun b s o => ?_⟩
  · refine (congrFun e0 _).trans ((rowsB _ _ _ _ _ _ hp.1 hp.2 b s o).trans ?_)
    rw [layer_blk, enc_lay]
  · refine (congrFun e1 _).trans ((rowsBb _ _ _ _ _ _ hp.1 hp.2 b s o).trans ?_)
    rw [layer_blk, enc_lay]

/-- A last point leaves one layer more than it found. -/
theorem holdC (t : Fin cfg0.N) (h0 : ¬t.val % 4 = 0) (h1 : t.val % 4 = 3)
    (hp : Holds m c (t.val % 4) (bat t) (outsAt0 (F := Ideal) m c (t.val - 1) (Nat.lt_of_le_of_lt (Nat.sub_le _ _) t.isLt)).2.1
      (outsAt0 (F := Ideal) m c (t.val - 1) (Nat.lt_of_le_of_lt (Nat.sub_le _ _) t.isLt)).2.2) :
    Holds m c (t.val % 4 + 1) (bat t) (outsAt0 (F := Ideal) m c t.val t.isLt).2.1 (outsAt0 (F := Ideal) m c t.val t.isLt).2.2 := by
  have e0 := congrArg (fun z => z.2.1) (outsAt0_C (F := Ideal) m c t h0 h1)
  have e1 := congrArg (fun z => z.2.2) (outsAt0_C (F := Ideal) m c t h0 h1)
  simp only [sC0] at e0
  simp only [sC1] at e1
  refine ⟨fun b s o => ?_, fun b s o => ?_⟩
  · refine (congrFun e0 _).trans ((rowsB _ _ _ _ _ _ hp.1 hp.2 b s o).trans ?_)
    rw [layer_blk, enc_lay]
  · refine (congrFun e1 _).trans ((rowsBb _ _ _ _ _ _ hp.1 hp.2 b s o).trans ?_)
    rw [layer_blk, enc_lay]

/-- Within a pair's four points, what the point before left is what this point needs. -/
theorem step_back (n : ℕ) (hn : n + 1 < cfg0.N) (h0 : ¬(n + 1) % 4 = 0)
    (hp : Holds m c (n % 4 + 1) (bat ⟨n, Nat.lt_of_succ_lt hn⟩) (outsAt0 (F := Ideal) m c n (Nat.lt_of_succ_lt hn)).2.1
      (outsAt0 (F := Ideal) m c n (Nat.lt_of_succ_lt hn)).2.2) :
    Holds m c ((n + 1) % 4) (bat ⟨n + 1, hn⟩) (outsAt0 (F := Ideal) m c n (Nat.lt_of_succ_lt hn)).2.1
      (outsAt0 (F := Ideal) m c n (Nat.lt_of_succ_lt hn)).2.2 := by
  have hk : n % 4 + 1 = (n + 1) % 4 := by omega
  have hb : bat ⟨n, Nat.lt_of_succ_lt hn⟩ = bat ⟨n + 1, hn⟩ :=
    funext fun b => Fin.ext (by show 2 * (n / 4) + b.val = 2 * ((n + 1) / 4) + b.val; omega)
  rw [hk, hb] at hp
  exact hp

/-- Every point leaves its layers. -/
theorem holds_all : ∀ (n : ℕ) (hn : n < cfg0.N),
    Holds m c (n % 4 + 1) (bat ⟨n, hn⟩) (outsAt0 (F := Ideal) m c n hn).2.1 (outsAt0 (F := Ideal) m c n hn).2.2
  | 0, hn => holdA m c ⟨0, hn⟩ rfl (by show ¬0 % 4 = 3; decide)
  | n + 1, hn => by
    by_cases h0 : (n + 1) % 4 = 0
    · exact holdA m c ⟨n + 1, hn⟩ h0 (by show ¬(n + 1) % 4 = 3; omega)
    · have hp := step_back m c n hn h0 (holds_all n (Nat.lt_of_succ_lt hn))
      by_cases h1 : (n + 1) % 4 = 3
      · exact holdC m c ⟨n + 1, hn⟩ h0 h1 hp
      · exact holdB m c ⟨n + 1, hn⟩ h0 h1 hp

/-- The kernel's result row of a sequence of the batch. -/
def outK (n : Fin 32) (o : Fin 256) : EReal :=
  resK (enc (stK m c) 4 (X0 m c n)) (fun o i => (m ((c.tc : Thread nD τ).loc main_arg13) : FVec Ideal S768x768 .f32) (ix2 o i))
    (fun j => (m ((c.tc : Thread nD τ).loc main_arg15) : FVec Ideal S1x768 .f32) (ix2 0 j))
    (fun j o => (m ((c.tc : Thread nD τ).loc main_arg16) : FVec Ideal S256x784 .f32) (ix2 o (Fin.castAdd 16 j)))
    (fun k => (m ((c.tc : Thread nD τ).loc main_arg1) : FVec Ideal S32x16 .f32) (ix2 n k))
    (fun k o => (m ((c.tc : Thread nD τ).loc main_arg16) : FVec Ideal S256x784 .f32) (ix2 o (Fin.natAdd 768 k))) o

/-- A last point's result block holds its two sequences' result rows. -/
theorem last_out (t : Fin cfg0.N) (h0 : ¬t.val % 4 = 0) (h1 : t.val % 4 = 3)
    (hp : Holds m c (t.val % 4) (bat t) (outsAt0 (F := Ideal) m c (t.val - 1) (Nat.lt_of_le_of_lt (Nat.sub_le _ _) t.isLt)).2.1
      (outsAt0 (F := Ideal) m c (t.val - 1) (Nat.lt_of_le_of_lt (Nat.sub_le _ _) t.isLt)).2.2) (b : Fin 2) (o : Fin 256) :
    (outsAt0 (F := Ideal) m c t.val t.isLt).1 (ix3 b 0 o) = outK m c (bat t b) o := by
  have e0 := congrArg (fun z => z.1) (outsAt0_C (F := Ideal) m c t h0 h1)
  simp only [oC] at e0
  refine (congrFun e0 _).trans ((resC (fun b => enc (stK m c) (t.val % 4 + 1) (X0 m c (bat t b))) _ _ _ _ _ _ ?_ b o).trans ?_)
  · intro b s o
    refine (rowsBb _ _ _ _ _ _ hp.1 hp.2 b s o).trans ?_
    rw [layer_blk, enc_lay]
  · have hk : t.val % 4 + 1 = 4 := by omega
    unfold outK
    rw [hk]
    simp only [blk5, blk6, blk7, blk8, blk9]

/-- The array of results after the run. -/
theorem G10_apply (n : Fin 32) (o : Fin 256) : G10 (F := Ideal) m c (ix3 n 0 o) = outK m c n o := by
  have hn := n.isLt
  have ho := o.isLt
  have hr : pt10Of (ix3 n 0 o) = 4 * (n.val / 2) + 3 := by
    show 4 * (1 * (n.val / 2 - 0) + 1 * (0 / 1 - 0) + 1 * (o.val / 256 - 0)) + 3 = _
    omega
  have hN : cfg0.N = 64 := N_0
  have hp : pt10Of (ix3 n 0 o) < cfg0.N := by omega
  unfold G10
  rw [dif_pos hp, ← outsAt0_sweep (F := Ideal) m c _ hp]
  have hl : loc10Of (ix3 n 0 o) = ix3 (⟨n.val % 2, Nat.mod_lt _ (by decide)⟩ : Fin 2) 0 o := by
    refine funext fun a => Fin.ext ?_
    match a with
    | ⟨0, _⟩ => rfl
    | ⟨1, _⟩ => rfl
    | ⟨2, _⟩ => show o.val % 256 = o.val; omega
  rw [hl]
  have hb : bat ⟨pt10Of (ix3 n 0 o), hp⟩ ⟨n.val % 2, Nat.mod_lt _ (by decide)⟩ = n := Fin.ext (by
    show 2 * (pt10Of (ix3 n 0 o) / 4) + n.val % 2 = n.val
    omega)
  have hh : ∀ (k : ℕ) (hk : k + 1 < cfg0.N), (k + 1) % 4 = 3 → ∀ b,
      (outsAt0 (F := Ideal) m c (k + 1) hk).1 (ix3 b 0 o) = outK m c (bat ⟨k + 1, hk⟩ b) o := fun k hk h3 b =>
    last_out m c ⟨k + 1, hk⟩ (by show ¬(k + 1) % 4 = 0; omega) h3
      (step_back m c k hk (by omega) (holds_all m c k (Nat.lt_of_succ_lt hk))) b o
  have key := hh (pt10Of (ix3 n 0 o) - 1) (by omega) (by omega) ⟨n.val % 2, Nat.mod_lt _ (by decide)⟩
  have hs : pt10Of (ix3 n 0 o) - 1 + 1 = pt10Of (ix3 n 0 o) := by omega
  simp only [hs] at key
  rw [hb] at key
  exact key

end Cert.Enc.Ker
-- ==== Proof.Enc.RefLayer.lean ====
module

public import proofs.«01_k».proof.Proof.Enc.Spec
public import proofs.«01_k».proof.Proof.Gen.ReferenceIdeal
public import Idealize.ShloMosaic.Lib.KernelVsHost
public import Idealize.ShloMosaic.Lib.ValueIdx

/-!
One layer of the reference as a function of its input and of the layer's slices of the weights, in the
reference's own host operations, and that function read at an index.
-/

@[expose] public section

noncomputable section

namespace Cert.Enc.Ref

open Cert.ReferenceIdeal Cert.ReferenceIdeal.Gen Idealize.ShloMosaic
open scoped BigOperators

/-- A product with the transpose of a layer's weight matrix. -/
def rLin (X : FVec Ideal S32x512x768 .f32) (W : FVec Ideal S1x768x768 .f32) : FVec Ideal S32x512x768 .f32 :=
  Host.dotGeneral dot_S32x512x768_S768x768_S32x512x768_2_0_01_1_n_n none X
    (transpose S768x768 [1, 0] (shapeCast S768x768 W shapeCasts_S1x768x768_S768x768) transposes_S768x768_S768x768_1_0)

/-- A layer's row of gains or biases, spread over every row of the batch. -/
def rRow (g : FVec Ideal S1x768 .f32) : FVec Ideal S32x512x768 .f32 :=
  broadcastInDim S32x512x768 ![0, 1, 2] bcast_S1x1x768_S32x512x768_0_1_2
    (broadcastInDim S1x1x768 ![2] bcast_S768_S1x1x768_2 (shapeCast S768 g shapeCasts_S1x768_S768))

/-- The columns cut into heads. -/
def rHeads (Y : FVec Ideal S32x512x768 .f32) : FVec Ideal S32x512x12x64 .f32 :=
  shapeCast S32x512x12x64 Y shapeCasts_S32x512x768_S32x512x12x64

/-- The scores of every head over the square root of the head's width. -/
def rScores (q k : FVec Ideal S32x512x12x64 .f32) : FVec Ideal S32x12x512x512 .f32 :=
  Host.divf (Host.dotGeneral dot_S32x512x12x64_S32x512x12x64_S32x12x512x512_3_3_1_1_02_02 none q k)
    (broadcastInDim S32x12x512x512 ![] bcast_S_S32x12x512x512 (Host.sqrt (constant S_ .f32 0x42800000#32)))

/-- The exponentials of scores less their row's greatest. -/
def rExp (a : FVec Ideal S32x12x512x512 .f32) : FVec Ideal S32x12x512x512 .f32 :=
  Host.exp (subf a (broadcastInDim S32x12x512x512 ![0, 1, 2, 3] bcast_S32x12x512x1_S32x12x512x512_0_1_2_3
    (broadcastInDim S32x12x512x1 ![0, 1, 2] bcast_S32x12x512_S32x12x512x1_0_1_2
      (maximumf (broadcastInDim S32x12x512 ![] bcast_S_S32x12x512 (constant S_ .f32 0xFF800000#32))
        (Host.reduce FloatOps.maximumf a (constant S_ .f32 0xFF800000#32) reducesTo_S32x12x512x512_S32x12x512_d3 h_S_)))))

/-- Each row of exponentials over its sum. -/
def rNorm (e : FVec Ideal S32x12x512x512 .f32) : FVec Ideal S32x12x512x512 .f32 :=
  Host.divf e (broadcastInDim S32x12x512x512 ![0, 1, 2, 3] bcast_S32x12x512x1_S32x12x512x512_0_1_2_3
    (broadcastInDim S32x12x512x1 ![0, 1, 2] bcast_S32x12x512_S32x12x512x1_0_1_2
      (Host.reduceAdd e (constant S_ .f32 0x00000000#32) reducesTo_S32x12x512x512_S32x12x512_d3 h_S_)))

/-- The weighted values, the heads joined again. -/
def rOut (v : FVec Ideal S32x512x12x64 .f32) (p : FVec Ideal S32x12x512x512 .f32) : FVec Ideal S32x512x768 .f32 :=
  shapeCast S32x512x768 (transpose S32x512x12x64 [0, 3, 1, 2]
    (Host.dotGeneral dot_S32x512x12x64_S32x12x512x512_S32x12x64x512_1_3_3_2_02_01 none v p)
    transposes_S32x12x64x512_S32x512x12x64_0_3_1_2) shapeCasts_S32x512x12x64_S32x512x768

/-- The attention of the batch. -/
def rAtt (X : FVec Ideal S32x512x768 .f32) (Wq Wk Wv : FVec Ideal S1x768x768 .f32) : FVec Ideal S32x512x768 .f32 :=
  rOut (rHeads (rLin X Wv)) (rNorm (rExp (rScores (rHeads (rLin X Wq)) (rHeads (rLin X Wk)))))

/-- The mean of each row, spread over a unit column. -/
def rMean (u : FVec Ideal S32x512x768 .f32) : FVec Ideal S32x512x1 .f32 :=
  Host.divf (broadcastInDim S32x512x1 ![0, 1] bcast_S32x512_S32x512x1_0_1
      (Host.reduceAdd u (constant S_ .f32 0x00000000#32) reducesTo_S32x512x768_S32x512_d2 h_S_))
    (broadcastInDim S32x512x1 ![] bcast_S_S32x512x1 (constant S_ .f32 0x44400000#32))

/-- Each row less its mean. -/
def rDev (u : FVec Ideal S32x512x768 .f32) : FVec Ideal S32x512x768 .f32 :=
  subf u (broadcastInDim S32x512x768 ![0, 1, 2] bcast_S32x512x1_S32x512x768_0_1_2 (rMean u))

/-- The normalised rows before gain and bias. -/
def rNrm (u : FVec Ideal S32x512x768 .f32) : FVec Ideal S32x512x768 .f32 :=
  mulf (rDev u) (broadcastInDim S32x512x768 ![0, 1, 2] bcast_S32x512x1_S32x512x768_0_1_2
    (Host.rsqrt (addf (rMean (mulf (rDev u) (rDev u)))
      (broadcastInDim S32x512x1 ![] bcast_S_S32x512x1 (constant S_ .f32 0x3727C5AC#32)))))

/-- The normalised rows, times the gain, plus the bias. -/
def rLn (u : FVec Ideal S32x512x768 .f32) (g b : FVec Ideal S1x768 .f32) : FVec Ideal S32x512x768 .f32 :=
  addf (mulf (rNrm u) (rRow g)) (rRow b)

/-- The first product of the two-matrix network, its bias added and its negative part dropped. -/
def rHid (y : FVec Ideal S32x512x768 .f32) (W1 : FVec Ideal S1x768x768 .f32) (b1 : FVec Ideal S1x768 .f32) :
    FVec Ideal S32x512x768 .f32 :=
  maximumf (addf (rLin y W1) (rRow b1)) (broadcastInDim S32x512x768 ![] bcast_S_S32x512x768 (constant S_ .f32 0x00000000#32))

/-- The second half of a layer: the two-matrix network, its residual and its normalisation. -/
def rFf (y : FVec Ideal S32x512x768 .f32) (W1 : FVec Ideal S1x768x768 .f32) (b1 : FVec Ideal S1x768 .f32)
    (W2 : FVec Ideal S1x768x768 .f32) (b2 g b : FVec Ideal S1x768 .f32) : FVec Ideal S32x512x768 .f32 :=
  rLn (addf y (addf (rLin (rHid y W1 b1) W2) (rRow b2))) g b

/-- One layer of the reference. -/
def rLayer (X : FVec Ideal S32x512x768 .f32) (Wq Wk Wv : FVec Ideal S1x768x768 .f32) (g1 b1 : FVec Ideal S1x768 .f32)
    (W1 : FVec Ideal S1x768x768 .f32) (c1 : FVec Ideal S1x768 .f32) (W2 : FVec Ideal S1x768x768 .f32)
    (c2 g2 b2 : FVec Ideal S1x768 .f32) : FVec Ideal S32x512x768 .f32 :=
  rFf (rLn (addf X (rAtt X Wq Wk Wv)) g1 b1) W1 c1 W2 c2 g2 b2

/-- A layer's weight matrix as a plain matrix. -/
def mat (W : FVec Ideal S1x768x768 .f32) : Wt := fun o i => W (ix3 0 o i)

/-- One sequence of the batch. -/
def seq (X : FVec Ideal S32x512x768 .f32) (n : Fin 32) : Seq := fun s o => X (ix3 n s o)

/-- A projection of the reference, at one entry, is the row's product with the matrix's row. -/
theorem rLin_apply (X : FVec Ideal S32x512x768 .f32) (W : FVec Ideal S1x768x768 .f32) (n : Fin 32) (s : Fin 512) (o : Fin 768) :
    rLin X W (ix3 n s o) = proj (seq X n s) (mat W) o := by
  pointwise [rLin, proj, seq, mat, dot_S32x512x768_S768x768_S32x512x768_2_0_01_1_n_n]

/-- A layer's gain or bias, spread over the batch, is the same on every row. -/
theorem rRow_apply (g : FVec Ideal S1x768 .f32) (n : Fin 32) (s : Fin 512) (o : Fin 768) :
    rRow g (ix3 n s o) = g (ix2 0 o) := by
  pointwise [rRow]

/-- Entry `d` of head `h` is entry `64 h + d` of the row. -/
theorem rHeads_apply (Y : FVec Ideal S32x512x768 .f32) (n : Fin 32) (s : Fin 512) (h : Fin 12) (d : Fin 64) :
    rHeads Y (ix4 n s h d) = Y (ix3 n s ⟨64 * h.val + d.val, by omega⟩) := by
  pointwise [rHeads]
  exact congrArg Y (congrArg (ix3 n s) (Fin.ext (by simp only; omega)))

/-- A score of the reference is the product of a query and a key over the root of the head's width. -/
theorem rScores_apply (q k : FVec Ideal S32x512x12x64 .f32) (n : Fin 32) (h : Fin 12) (s t : Fin 512) :
    rScores q k (ix4 n h s t) = Ideal.div (∑ d : Fin 64, q (ix4 n s h d) * k (ix4 n t h d)) (Ideal.sqrt cHd) := by
  pointwise [rScores, dot_S32x512x12x64_S32x512x12x64_S32x12x512x512_3_3_1_1_02_02, cHd]

/-- The host's maximum over one axis, from minus infinity, is the fold over that axis's coordinates. -/
theorem hostMax_single {s t u : Shape} {a : Fin s.rank} (x : FVec Ideal s .f32) (h' : s.ReducesTo [a] t) (hu : 0 < u.numel)
    (h : s.Reduces [a] t) (j : t.Idx) :
    Host.reduce FloatOps.maximumf x (constant u .f32 0xFF800000#32) h' hu j
      = (Finset.univ : Finset (Fin (s.size a))).fold max cBot (x ∘ h.lift j) := by
  exact (congrFun (hostReduce_maximumf_eq_multiReduction x 0xFF800000#32 h' hu h (.inl rfl) rfl) j).trans
    (Ideal.multiReduction_maximumf_single x _ h (.inl rfl) rfl j)

/-- The greatest score of each row, as the reference takes it, is the fold over the row. -/
theorem rMax_apply (a : FVec Ideal S32x12x512x512 .f32) (n : Fin 32) (h : Fin 12) (s : Fin 512) :
    maximumf (broadcastInDim S32x12x512 ![] bcast_S_S32x12x512 (constant S_ .f32 0xFF800000#32))
        (Host.reduce FloatOps.maximumf a (constant S_ .f32 0xFF800000#32) reducesTo_S32x12x512x512_S32x12x512_d3 h_S_)
        (ix3 n h s) = top fun t' => a (ix4 n h s t') := by
  have hr : S32x12x512x512.Reduces [3] S32x12x512 := by decide
  rw [ValueIdx.maximumf_apply, hostMax_single a _ _ hr]
  refine congrArg (max cBot) (congrArg (fun f => (Finset.univ : Finset (Fin 512)).fold max cBot f) (funext fun t => ?_))
  refine congrArg a (funext fun d => ?_)
  match d with
  | ⟨0, _⟩ => rfl
  | ⟨1, _⟩ => rfl
  | ⟨2, _⟩ => rfl
  | ⟨3, _⟩ => rfl

/-- A weight of the reference is the exponential of the score less the row's greatest. -/
theorem rExp_apply (a : FVec Ideal S32x12x512x512 .f32) (n : Fin 32) (h : Fin 12) (s t : Fin 512) :
    rExp a (ix4 n h s t) = Ideal.exp (a (ix4 n h s t) - top fun t' => a (ix4 n h s t')) := by
  unfold rExp
  have hs := rMax_apply a
  generalize maximumf (broadcastInDim S32x12x512 ![] bcast_S_S32x12x512 (constant S_ .f32 0xFF800000#32))
        (Host.reduce FloatOps.maximumf a (constant S_ .f32 0xFF800000#32) reducesTo_S32x12x512x512_S32x12x512_d3 h_S_)
    = R at hs ⊢
  pointwise [hs]

/-- A normalised weight is the weight over the sum of its row's weights. -/
theorem rNorm_apply (e : FVec Ideal S32x12x512x512 .f32) (n : Fin 32) (h : Fin 12) (s t : Fin 512) :
    rNorm e (ix4 n h s t) = Ideal.div (e (ix4 n h s t)) (∑ t', e (ix4 n h s t')) := by
  unfold rNorm
  have hs : ∀ (n : Fin 32) (h : Fin 12) (s : Fin 512),
      (Host.reduceAdd e (constant S_ .f32 0x00000000#32) reducesTo_S32x12x512x512_S32x12x512_d3 h_S_) (ix3 n h s)
        = ∑ t', e (ix4 n h s t') := by
    intro n h s
    pointwise
  generalize Host.reduceAdd e (constant S_ .f32 0x00000000#32) reducesTo_S32x12x512x512_S32x12x512_d3 h_S_ = R at hs ⊢
  pointwise [hs]

/-- An entry of the attention is the weighted sum of its head's values. -/
theorem rOut_apply (v : FVec Ideal S32x512x12x64 .f32) (p : FVec Ideal S32x12x512x512 .f32) (n : Fin 32) (s : Fin 512) (o : Fin 768) :
    rOut v p (ix3 n s o) = ∑ t : Fin 512, v (ix4 n t ⟨o.val / 64, by omega⟩ ⟨o.val % 64, by omega⟩)
      * p (ix4 n ⟨o.val / 64, by omega⟩ s t) := by
  pointwise [rOut, dot_S32x512x12x64_S32x12x512x512_S32x12x64x512_1_3_3_2_02_01]

/-- The attention of the reference, on one sequence, is the textbook's. -/
theorem rAtt_apply (X : FVec Ideal S32x512x768 .f32) (Wq Wk Wv : FVec Ideal S1x768x768 .f32) (n : Fin 32) :
    seq (rAtt X Wq Wk Wv) n = attR (seq X n) (mat Wq) (mat Wk) (mat Wv) := by
  have hc : ∀ o : Fin 768, (⟨64 * (o.val / 64) + o.val % 64, by omega⟩ : Fin 768) = o := fun o =>
    Fin.ext (Nat.div_add_mod o.val 64)
  funext s o
  show rAtt X Wq Wk Wv (ix3 n s o) = _
  unfold rAtt attR smR soft
  rw [rOut_apply]
  refine Finset.sum_congr rfl fun t _ => ?_
  rw [rNorm_apply, rHeads_apply, rLin_apply]
  simp only [rExp_apply, rScores_apply, rHeads_apply, rLin_apply, hc]
  rfl

/-- The mean of a row, as the reference takes it. -/
theorem rMean_apply (u : FVec Ideal S32x512x768 .f32) (n : Fin 32) (s : Fin 512) :
    rMean u (ix3 n s 0) = mean (seq u n s) := by
  pointwise [rMean, mean, seq, cD]

/-- The deviation of an entry from its row's mean, as the reference takes it. -/
theorem rDev_apply (u : FVec Ideal S32x512x768 .f32) (n : Fin 32) (s : Fin 512) (o : Fin 768) :
    rDev u (ix3 n s o) = dev (seq u n s) o := by
  pointwise [rDev, rMean_apply, dev]
  rfl

/-- A normalised entry, before gain and bias. -/
theorem rNrm_apply (u : FVec Ideal S32x512x768 .f32) (n : Fin 32) (s : Fin 512) (o : Fin 768) :
    rNrm u (ix3 n s o) = lnRow (seq u n s) o := by
  have h : seq (mulf (rDev u) (rDev u)) n s = fun j => dev (seq u n s) j * dev (seq u n s) j := by
    funext j
    pointwise [seq, rDev_apply]
  pointwise [rNrm, rMean_apply, rDev_apply, lnRow, h, cEps]

/-- With gain one and bias zero the reference's layer norm is the bare normalisation. -/
theorem rLn_apply (u : FVec Ideal S32x512x768 .f32) (g b : FVec Ideal S1x768 .f32) (hg : ∀ o, g (ix2 0 o) = 1)
    (hb : ∀ o, b (ix2 0 o) = 0) (n : Fin 32) (s : Fin 512) (o : Fin 768) :
    rLn u g b (ix3 n s o) = lnRow (seq u n s) o := by
  pointwise [rLn, rRow_apply, rNrm_apply, hg, hb]

/-- A layer of the reference, its gains one and its biases zero, is the textbook's layer on each sequence. -/
theorem rLayer_apply (X : FVec Ideal S32x512x768 .f32) (Wq Wk Wv : FVec Ideal S1x768x768 .f32) (g1 b1 : FVec Ideal S1x768 .f32)
    (W1 : FVec Ideal S1x768x768 .f32) (c1 : FVec Ideal S1x768 .f32) (W2 : FVec Ideal S1x768x768 .f32)
    (c2 g2 b2 : FVec Ideal S1x768 .f32) (hg1 : ∀ o, g1 (ix2 0 o) = 1) (hb1 : ∀ o, b1 (ix2 0 o) = 0)
    (hc1 : ∀ o, c1 (ix2 0 o) = 0) (hc2 : ∀ o, c2 (ix2 0 o) = 0) (hg2 : ∀ o, g2 (ix2 0 o) = 1) (hb2 : ∀ o, b2 (ix2 0 o) = 0)
    (n : Fin 32) :
    seq (rLayer X Wq Wk Wv g1 b1 W1 c1 W2 c2 g2 b2) n
      = layerR (seq X n) (mat Wq) (mat Wk) (mat Wv) (mat W1) (mat W2) := by
  have hy : seq (rLn (addf X (rAtt X Wq Wk Wv)) g1 b1) n
      = fun s => lnRow fun o => seq X n s o + attR (seq X n) (mat Wq) (mat Wk) (mat Wv) s o := by
    funext s o
    rw [← rAtt_apply]
    exact rLn_apply _ _ _ hg1 hb1 n s o
  unfold rLayer layerR tail
  generalize rLn (addf X (rAtt X Wq Wk Wv)) g1 b1 = y at hy ⊢
  rw [rFf]
  funext s o
  refine (rLn_apply _ _ _ hg2 hb2 n s o).trans (congrFun (congrArg lnRow (funext fun o' => ?_)) o)
  have hh : seq (rHid y W1 c1) n s = fun i => max (proj (seq y n s) (mat W1) i) 0 := by
    funext i
    pointwise [seq, rHid, rLin_apply, rRow_apply, hc1]
  have e : seq (addf y (addf (rLin (rHid y W1 c1) W2) (rRow c2))) n s o'
      = seq y n s o' + proj (seq (rHid y W1 c1) n s) (mat W2) o' := by
    pointwise [seq, rLin_apply, rRow_apply, hc2]
  rw [e, hh, hy]

end Cert.Enc.Ref
-- ==== Proof.Enc.RefPool.lean ====
module

public import proofs.«01_k».proof.Proof.Enc.RefLayer

/-!
The reference after its layers: the projection, the pooling over the sequence and the dense row, each in the
reference's own host operations and read at an index.
-/

@[expose] public section

noncomputable section

namespace Cert.Enc.Ref

open Cert.ReferenceIdeal Cert.ReferenceIdeal.Gen Idealize.ShloMosaic
open scoped BigOperators

/-- The projected rows. -/
def rTr (Z : FVec Ideal S32x512x768 .f32) (W : FVec Ideal S768x768 .f32) (b : FVec Ideal S768 .f32) : FVec Ideal S32x512x768 .f32 :=
  Host.tanh (addf (Host.dotGeneral dot_S32x512x768_S768x768_S32x512x768_2_0_01_1_n_n none Z
      (transpose S768x768 [1, 0] W transposes_S768x768_S768x768_1_0))
    (broadcastInDim S32x512x768 ![0, 1, 2] bcast_S1x1x768_S32x512x768_0_1_2 (broadcastInDim S1x1x768 ![2] bcast_S768_S1x1x768_2 b)))

/-- The pooling scores. -/
def rPs (T : FVec Ideal S32x512x768 .f32) (g : FVec Ideal S1x768 .f32) : FVec Ideal S32x512x1 .f32 :=
  Host.dotGeneral dot_S32x512x768_S768x1_S32x512x1_2_0_01_1_n_n none T (transpose S768x1 [1, 0] g transposes_S1x768_S768x1_1_0)

/-- The exponentials of the pooling scores less the greatest. -/
def rPe (a : FVec Ideal S32x512x1 .f32) : FVec Ideal S32x512x1 .f32 :=
  Host.exp (subf a (broadcastInDim S32x512x1 ![0, 1, 2] bcast_S32x1x1_S32x512x1_0_1_2
    (broadcastInDim S32x1x1 ![0, 2] bcast_S32x1_S32x1x1_0_2
      (maximumf (broadcastInDim S32x1 ![] bcast_S_S32x1 (constant S_ .f32 0xFF800000#32))
        (Host.reduce FloatOps.maximumf a (constant S_ .f32 0xFF800000#32) reducesTo_S32x512x1_S32x1_d1 h_S_)))))

/-- The pooling weights. -/
def rPn (e : FVec Ideal S32x512x1 .f32) : FVec Ideal S32x512x1 .f32 :=
  Host.divf e (broadcastInDim S32x512x1 ![0, 1, 2] bcast_S32x1x1_S32x512x1_0_1_2
    (broadcastInDim S32x1x1 ![0, 2] bcast_S32x1_S32x1x1_0_2
      (Host.reduceAdd e (constant S_ .f32 0x00000000#32) reducesTo_S32x512x1_S32x1_d1 h_S_)))

/-- The pooled rows. -/
def rPool (p : FVec Ideal S32x512x1 .f32) (T : FVec Ideal S32x512x768 .f32) : FVec Ideal S32x768 .f32 :=
  Host.dotGeneral dot_S32x512_S32x512x768_S32x768_1_1_n_2_0_0 none
    (Host.reduceAdd p (constant S_ .f32 0x00000000#32) reducesTo_S32x512x1_S32x512_d2 h_S_) T

/-- The dense rows of the pooled rows joined with the features. -/
def rEnd (y : FVec Ideal S32x768 .f32) (f : FVec Ideal S32x16 .f32) (A : FVec Ideal S256x784 .f32) : FVec Ideal S32x1x256 .f32 :=
  broadcastInDim S32x1x256 ![0, 2] bcast_S32x256_S32x1x256_0_2
    (Host.tanh (Host.dotGeneral dot_S32x784_S784x256_S32x256_1_0_0_1_n_n none
      (concatenate S32x784 1 [⟨S32x768, y⟩, ⟨S32x16, f⟩] concatenates_S32x768_S32x16_S32x784_d1)
      (transpose S784x256 [1, 0] A transposes_S256x784_S784x256_1_0)))

/-- Everything after the layers. -/
def rRest (Z : FVec Ideal S32x512x768 .f32) (f : FVec Ideal S32x16 .f32) (W : FVec Ideal S768x768 .f32) (b : FVec Ideal S768 .f32)
    (g : FVec Ideal S1x768 .f32) (A : FVec Ideal S256x784 .f32) : FVec Ideal S32x1x256 .f32 :=
  rEnd (rPool (rPn (rPe (rPs (rTr Z W b) g))) (rTr Z W b)) f A

/-- The projected rows at an index, the bias being zero. -/
theorem rTr_apply (Z : FVec Ideal S32x512x768 .f32) (W : FVec Ideal S768x768 .f32) (b : FVec Ideal S768 .f32)
    (hb : ∀ o, b (ix1 o) = 0) (n : Fin 32) (s : Fin 512) (o : Fin 768) :
    rTr Z W b (ix3 n s o) = Ideal.tanh (proj (seq Z n s) (fun o i => W (ix2 o i)) o) := by
  pointwise [rTr, proj, seq, hb, dot_S32x512x768_S768x768_S32x512x768_2_0_01_1_n_n]

/-- The pooling scores at an index. -/
theorem rPs_apply (T : FVec Ideal S32x512x768 .f32) (g : FVec Ideal S1x768 .f32) (n : Fin 32) (s : Fin 512) :
    rPs T g (ix3 n s 0) = ∑ j : Fin 768, T (ix3 n s j) * g (ix2 0 j) := by
  pointwise [rPs, dot_S32x512x768_S768x1_S32x512x1_2_0_01_1_n_n]

/-- The greatest pooling score of each sequence. -/
theorem rPm_apply (a : FVec Ideal S32x512x1 .f32) (n : Fin 32) :
    maximumf (broadcastInDim S32x1 ![] bcast_S_S32x1 (constant S_ .f32 0xFF800000#32))
        (Host.reduce FloatOps.maximumf a (constant S_ .f32 0xFF800000#32) reducesTo_S32x512x1_S32x1_d1 h_S_)
        (ix2 n 0) = top fun t' => a (ix3 n t' 0) := by
  have hr : S32x512x1.Reduces [1] S32x1 := by decide
  rw [ValueIdx.maximumf_apply, hostMax_single a _ _ hr]
  refine congrArg (max cBot) (congrArg (fun f => (Finset.univ : Finset (Fin 512)).fold max cBot f) (funext fun t => ?_))
  refine congrArg a (funext fun d => ?_)
  match d with
  | ⟨0, _⟩ => rfl
  | ⟨1, _⟩ => rfl
  | ⟨2, _⟩ => rfl

/-- The exponentials at an index. -/
theorem rPe_apply (a : FVec Ideal S32x512x1 .f32) (n : Fin 32) (s : Fin 512) :
    rPe a (ix3 n s 0) = Ideal.exp (a (ix3 n s 0) - top fun t' => a (ix3 n t' 0)) := by
  unfold rPe
  have hs := rPm_apply a
  generalize maximumf (broadcastInDim S32x1 ![] bcast_S_S32x1 (constant S_ .f32 0xFF800000#32))
        (Host.reduce FloatOps.maximumf a (constant S_ .f32 0xFF800000#32) reducesTo_S32x512x1_S32x1_d1 h_S_)
    = R at hs ⊢
  pointwise [hs]

/-- The weights at an index. -/
theorem rPn_apply (e : FVec Ideal S32x512x1 .f32) (n : Fin 32) (s : Fin 512) :
    rPn e (ix3 n s 0) = Ideal.div (e (ix3 n s 0)) (∑ t', e (ix3 n t' 0)) := by
  unfold rPn
  have hs : ∀ n : Fin 32, (Host.reduceAdd e (constant S_ .f32 0x00000000#32) reducesTo_S32x512x1_S32x1_d1 h_S_) (ix2 n 0)
        = ∑ t', e (ix3 n t' 0) := by
    intro n
    pointwise
  generalize Host.reduceAdd e (constant S_ .f32 0x00000000#32) reducesTo_S32x512x1_S32x1_d1 h_S_ = R at hs ⊢
  pointwise [hs]

/-- The pooled rows at an index. -/
theorem rPool_apply (p : FVec Ideal S32x512x1 .f32) (T : FVec Ideal S32x512x768 .f32) (n : Fin 32) (j : Fin 768) :
    rPool p T (ix2 n j) = ∑ s : Fin 512, p (ix3 n s 0) * T (ix3 n s j) := by
  unfold rPool
  have hs : ∀ (n : Fin 32) (s : Fin 512), (Host.reduceAdd p (constant S_ .f32 0x00000000#32) reducesTo_S32x512x1_S32x512_d2 h_S_) (ix2 n s)
        = p (ix3 n s 0) := by
    intro n s
    pointwise
    exact Fin.sum_univ_one _
  generalize Host.reduceAdd p (constant S_ .f32 0x00000000#32) reducesTo_S32x512x1_S32x512_d2 h_S_ = R at hs ⊢
  pointwise [hs, dot_S32x512_S32x512x768_S32x768_1_1_n_2_0_0]

/-- The dense rows at an index: the pooled part and the features' part. -/
theorem rEnd_apply (y : FVec Ideal S32x768 .f32) (f : FVec Ideal S32x16 .f32) (A : FVec Ideal S256x784 .f32) (n : Fin 32) (o : Fin 256) :
    rEnd y f A (ix3 n 0 o) = Ideal.tanh (∑ j : Fin 768, y (ix2 n j) * A (ix2 o (Fin.castAdd 16 j))
      + ∑ k : Fin 16, f (ix2 n k) * A (ix2 o (Fin.natAdd 768 k))) := by
  unfold rEnd
  have hl : ∀ (n : Fin 32) (j : Fin 768),
      concatenate S32x784 1 [⟨S32x768, y⟩, ⟨S32x16, f⟩] concatenates_S32x768_S32x16_S32x784_d1 (ix2 n (Fin.castAdd 16 j)) = y (ix2 n j) :=
    fun n j => concatenate_pair_apply_left 1 y f concatenates_S32x768_S32x16_S32x784_d1 _ rfl (ix2 n j) fun b => match b with
      | ⟨0, _⟩ => rfl
      | ⟨1, _⟩ => rfl
  have hr : ∀ (n : Fin 32) (k : Fin 16),
      concatenate S32x784 1 [⟨S32x768, y⟩, ⟨S32x16, f⟩] concatenates_S32x768_S32x16_S32x784_d1 (ix2 n (Fin.natAdd 768 k)) = f (ix2 n k) := by
    intro n k
    pointwise
    rw [dif_neg (by show ¬768 + k.val < 768; omega)]
    exact congrArg f (congrArg (ix2 n) (Fin.ext (Nat.add_sub_cancel_left 768 k.val)))
  generalize concatenate S32x784 1 [⟨S32x768, y⟩, ⟨S32x16, f⟩] concatenates_S32x768_S32x16_S32x784_d1 = C at hl hr ⊢
  have e : ∀ C : FVec Ideal S32x784 .f32, broadcastInDim S32x1x256 ![0, 2] bcast_S32x256_S32x1x256_0_2
      (Host.tanh (Host.dotGeneral dot_S32x784_S784x256_S32x256_1_0_0_1_n_n none C
        (transpose S784x256 [1, 0] A transposes_S256x784_S784x256_1_0))) (ix3 n 0 o)
      = Ideal.tanh (∑ i : Fin (768 + 16), C (ix2 n i) * A (ix2 o i)) := by
    intro C
    pointwise [dot_S32x784_S784x256_S32x256_1_0_0_1_n_n]
  refine (e C).trans (congrArg Ideal.tanh ?_)
  rw [Fin.sum_univ_add]
  simp only [hl, hr]

/-- The result of the reference in terms of its last layer's rows. -/
theorem rRest_apply (Z : FVec Ideal S32x512x768 .f32) (f : FVec Ideal S32x16 .f32) (W : FVec Ideal S768x768 .f32) (b : FVec Ideal S768 .f32)
    (g : FVec Ideal S1x768 .f32) (A : FVec Ideal S256x784 .f32) (hb : ∀ o, b (ix1 o) = 0) (n : Fin 32) (o : Fin 256) :
    rRest Z f W b g A (ix3 n 0 o)
      = Ideal.tanh (∑ j : Fin 768, poolR (fun s o => Ideal.tanh (proj (seq Z n s) (fun o i => W (ix2 o i)) o)) (fun j => g (ix2 0 j)) j
            * A (ix2 o (Fin.castAdd 16 j))
          + ∑ k : Fin 16, f (ix2 n k) * A (ix2 o (Fin.natAdd 768 k))) := by
  unfold rRest
  rw [rEnd_apply]
  simp only [rPool_apply, rPn_apply, rPe_apply, rPs_apply, rTr_apply Z W b hb]
  rfl

end Cert.Enc.Ref
-- ==== Proof.Enc.Soft.lean ====
module

public import proofs.«01_k».proof.Proof.Enc.Spec
public import Idealize.ShloMosaic.PureOps.Ideal.Laws

/-!
The encoder where its scores are finite: there the kernel's softmax, which neither shifts its scores nor divides each
weight, is the textbook's, whatever values it weighs. A normalised row is finite whatever the row was, so every layer
hands finite rows to the next.
-/

@[expose] public section

noncomputable section

namespace Cert.Enc

open Idealize.ShloMosaic
open scoped BigOperators

/-- A number that is neither infinity. -/
def IsR (x : EReal) : Prop := ∃ r : ℝ, x = (r : EReal)

/-- The width of the model is 768. -/
theorem cD_eq : cD = ((768 : ℝ) : EReal) := by
  unfold cD
  simp [Ideal.ofBits, Ideal.ieee, -EReal.coe_mul]; norm_num

/-- The guard is a small positive number. -/
theorem cEps_eq : cEps = ((10995116 / 1099511627776 : ℝ) : EReal) := by
  unfold cEps
  simp [Ideal.ofBits, Ideal.ieee, -EReal.coe_mul]; norm_num

/-- The width of one head is 64. -/
theorem cHd_eq : cHd = ((64 : ℝ) : EReal) := by
  unfold cHd
  simp [Ideal.ofBits, Ideal.ieee, -EReal.coe_mul]; norm_num

/-- The literal of minus infinity is minus infinity. -/
theorem cBot_eq : cBot = ⊥ := by
  unfold cBot
  simp [Ideal.ofBits, Ideal.ieee]

/-- A real is finite. -/
theorem isR_coe (r : ℝ) : IsR (r : EReal) := ⟨r, rfl⟩

/-- Neither infinity means finite. -/
theorem isR_of_ne {x : EReal} (h1 : x ≠ ⊤) (h2 : x ≠ ⊥) : IsR x := ⟨x.toReal, (EReal.coe_toReal h1 h2).symm⟩

/-- A sum of two finite numbers is finite. -/
theorem IsR.add {x y : EReal} (hx : IsR x) (hy : IsR y) : IsR (x + y) := by
  obtain ⟨a, rfl⟩ := hx; obtain ⟨b, rfl⟩ := hy; exact ⟨a + b, (EReal.coe_add a b).symm⟩

/-- A difference of two finite numbers is finite. -/
theorem IsR.sub {x y : EReal} (hx : IsR x) (hy : IsR y) : IsR (x - y) := by
  obtain ⟨a, rfl⟩ := hx; obtain ⟨b, rfl⟩ := hy; exact ⟨a - b, (EReal.coe_sub a b).symm⟩

/-- A product of two finite numbers is finite. -/
theorem IsR.mul {x y : EReal} (hx : IsR x) (hy : IsR y) : IsR (x * y) := by
  obtain ⟨a, rfl⟩ := hx; obtain ⟨b, rfl⟩ := hy; exact ⟨a * b, (EReal.coe_mul a b).symm⟩

/-- The larger of two finite numbers is finite. -/
theorem IsR.max {x y : EReal} (hx : IsR x) (hy : IsR y) : IsR (max x y) := by
  rcases max_choice x y with h | h <;> rw [h] <;> assumption

/-- Finite numbers are reals. -/
theorem choose_real {ι : Type*} {f : ι → EReal} (h : ∀ i, IsR (f i)) : ∃ g : ι → ℝ, f = fun i => (g i : EReal) :=
  ⟨fun i => (h i).choose, funext fun i => (h i).choose_spec⟩

/-- A sum of reals is the real sum. -/
theorem sum_coe {ι : Type*} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- A sum of finite numbers is finite. -/
theorem isR_sum {ι : Type*} (s : Finset ι) {f : ι → EReal} (h : ∀ i, IsR (f i)) : IsR (∑ i ∈ s, f i) := by
  obtain ⟨g, rfl⟩ := choose_real h
  exact ⟨_, sum_coe s g⟩

/-- A quotient of reals is the real quotient. -/
theorem div_real (a : ℝ) {b : ℝ} (hb : b ≠ 0) : Ideal.div (a : EReal) (b : EReal) = ((a / b : ℝ) : EReal) := by
  rw [Ideal.div_coe hb, ← EReal.coe_mul, mul_one_div]

/-- The mean of squares is a real that is not negative. -/
theorem mean_sq {u : Fin 768 → EReal} (h : ∀ i, IsR (u i)) : ∃ r : ℝ, 0 ≤ r ∧ mean (fun j => u j * u j) = (r : EReal) := by
  obtain ⟨g, rfl⟩ := choose_real h
  refine ⟨(∑ j, g j * g j) / 768, div_nonneg (Finset.sum_nonneg fun j _ => mul_self_nonneg _) (by norm_num), ?_⟩
  unfold mean
  simp only [← EReal.coe_mul]
  rw [sum_coe, cD_eq, div_real _ (by norm_num)]

/-- The reciprocal root of a positive real is finite. -/
theorem isR_rsqrt {r : ℝ} (h : 0 < r) : IsR (Ideal.rsqrt (r : EReal)) := by
  refine ⟨(Real.sqrt r)⁻¹, ?_⟩
  show (if r < 0 then (⊥ : EReal) else if r = 0 then ⊤ else ((Real.sqrt r)⁻¹ : ℝ)) = _
  rw [if_neg (not_lt.mpr h.le), if_neg h.ne']

/-- A square is not negative. -/
theorem sq_nonneg (x : EReal) : 0 ≤ x * x := by
  induction x using EReal.rec with
  | bot => simp
  | coe r => rw [← EReal.coe_mul]; exact EReal.coe_nonneg.mpr (mul_self_nonneg r)
  | top => simp

/-- The square of an infinity is plus infinity. -/
theorem sq_inf {x : EReal} (h : ¬IsR x) : x * x = ⊤ := by
  induction x using EReal.rec with
  | bot => simp
  | coe r => exact absurd (isR_coe r) h
  | top => simp

/-- The mean of squares is plus infinity as soon as one of them is. -/
theorem mean_sq_inf {u : Fin 768 → EReal} {j : Fin 768} (h : ¬IsR (u j)) : mean (fun j => u j * u j) = ⊤ := by
  have hs : ∑ j, u j * u j = ⊤ :=
    top_le_iff.mp ((sq_inf h).symm.le.trans (Finset.single_le_sum (f := fun j => u j * u j) (fun i _ => sq_nonneg (u i)) (Finset.mem_univ j)))
  unfold mean
  rw [hs, cD_eq, Ideal.div_coe (by norm_num)]
  exact EReal.top_mul_coe_of_pos (by norm_num)

/-- A normalised row is finite, whatever the row: an infinite deviation makes the factor zero. -/
theorem isR_lnRow (u : Fin 768 → EReal) (o : Fin 768) : IsR (lnRow u o) := by
  unfold lnRow
  by_cases h : ∀ j, IsR (dev u j)
  · obtain ⟨r, hr, e⟩ := mean_sq h
    rw [e, cEps_eq, ← EReal.coe_add]
    exact (h o).mul (isR_rsqrt (by positivity))
  · obtain ⟨j, hj⟩ := not_forall.mp h
    rw [mean_sq_inf hj, cEps_eq, EReal.top_add_coe]
    exact ⟨0, mul_zero _⟩

/-- A product with a matrix keeps numbers finite. -/
theorem isR_proj {x : Fin 768 → EReal} {W : Wt} (hx : ∀ i, IsR (x i)) (hW : ∀ o i, IsR (W o i)) (o : Fin 768) : IsR (proj x W o) :=
  isR_sum _ fun i => (hx i).mul (hW o i)

/-- The greatest of finitely many finite scores is finite. -/
theorem isR_fold {n : ℕ} [NeZero n] {a : Fin n → EReal} (h : ∀ t, IsR (a t)) : IsR (Finset.univ.fold max cBot a) := by
  rw [cBot_eq]
  refine isR_of_ne (ne_of_lt ?_) (ne_of_gt ?_)
  · refine Finset.fold_max_lt _ |>.mpr ⟨bot_lt_top, fun t _ => ?_⟩
    obtain ⟨r, hr⟩ := h t; rw [hr]; exact EReal.coe_lt_top r
  · refine Finset.lt_fold_max _ |>.mpr (Or.inr ⟨0, Finset.mem_univ _, ?_⟩)
    obtain ⟨r, hr⟩ := h 0; rw [hr]; exact EReal.bot_lt_coe r

/-- The textbook's greatest score is the plain one. -/
theorem top_eq {n : ℕ} (a : Fin n → EReal) : top a = Finset.univ.fold max cBot a := by
  unfold top
  rw [cBot_eq]
  exact max_eq_right bot_le

/-- The sum of exponentials is positive. -/
theorem sum_exp_pos {n : ℕ} [NeZero n] (α : Fin n → ℝ) : 0 < ∑ t, Real.exp (α t) :=
  Finset.sum_pos (fun t _ => Real.exp_pos _) ⟨0, Finset.mem_univ _⟩

/-- Shifting every score leaves the softmax as it is. -/
theorem shift {n : ℕ} [NeZero n] (α : Fin n → ℝ) (M : ℝ) (t : Fin n) :
    Real.exp (α t - M) / ∑ t', Real.exp (α t' - M) = Real.exp (α t) / ∑ t', Real.exp (α t') := by
  simp only [Real.exp_sub]
  rw [← Finset.sum_div]
  exact div_div_div_cancel_right₀ (Real.exp_pos M).ne' _ _

/-- A shifted exponential, over the reals. -/
theorem exp_sub_real (a M : ℝ) : Ideal.exp ((a : EReal) - (M : EReal)) = ((Real.exp (a - M) : ℝ) : EReal) := by
  rw [← EReal.coe_sub]; rfl

/-- The textbook softmax over the reals. -/
theorem soft_real {n : ℕ} [NeZero n] (α : Fin n → ℝ) (t : Fin n) :
    soft (fun t => (α t : EReal)) t = ((Real.exp (α t) / ∑ t', Real.exp (α t') : ℝ) : EReal) := by
  unfold soft
  rw [top_eq]
  obtain ⟨M, hM⟩ := isR_fold (a := fun t => (α t : EReal)) fun t => isR_coe _
  rw [hM]
  simp only [exp_sub_real]
  rw [sum_coe, div_real _ (sum_exp_pos _).ne', shift]

/-- A power of two of a score, scaled by the kernel's factor, is the exponential of the score over eight. -/
theorem exp2_real (a : ℝ) : Ideal.exp2 ((a : EReal) * cSc) = ((Real.exp (a / 8) : ℝ) : EReal) := by
  unfold cSc
  rw [← EReal.coe_mul]
  show ((Real.rpow 2 (a * ((Real.log 2)⁻¹ * (1 / 8))) : ℝ) : EReal) = _
  refine congrArg _ ?_
  show (2 : ℝ) ^ (a * ((Real.log 2)⁻¹ * (1 / 8))) = _
  rw [Real.rpow_def_of_pos (by norm_num)]
  refine congrArg _ ?_
  have h : Real.log 2 ≠ 0 := (Real.log_pos (by norm_num)).ne'
  field_simp

/-- The root of a head's width is eight. -/
theorem sqrt_cHd : Ideal.sqrt cHd = ((8 : ℝ) : EReal) := by
  rw [cHd_eq]
  show (if (64 : ℝ) < 0 then (⊥ : EReal) else (Real.sqrt 64 : EReal)) = _
  rw [if_neg (by norm_num), show (64 : ℝ) = 8 * 8 by norm_num, Real.sqrt_mul_self (by norm_num)]

/-- A factor that is a real and not negative goes into a sum, whatever the terms. -/
theorem sum_mul_real {ι : Type*} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- On finite scores the two forms of attention agree, whatever the values. -/
theorem smK_eq {n : ℕ} [NeZero n] {a : Fin n → EReal} (v : Fin n → EReal) (ha : ∀ t, IsR (a t)) : smK a v = smR a v := by
  obtain ⟨α, rfl⟩ := choose_real ha
  unfold smK smR
  rw [sqrt_cHd]
  simp only [exp2_real, div_real _ (show (8 : ℝ) ≠ 0 by norm_num), soft_real (fun t => α t / 8)]
  rw [sum_coe, ← EReal.coe_one, div_real _ (sum_exp_pos _).ne', sum_mul_real _ _ (div_nonneg zero_le_one (sum_exp_pos _).le)]
  refine Finset.sum_congr rfl fun t _ => ?_
  rw [mul_comm (_ : EReal) (v t), mul_assoc, ← EReal.coe_mul, mul_one_div]

/-- A matrix all of whose entries are finite. -/
def FinW {α β : Type*} (W : α → β → EReal) : Prop := ∀ o i, IsR (W o i)

/-- Scores of finite rows are finite. -/
theorem isR_score {Q K : Seq} (hQ : FinW Q) (hK : FinW K) (o : Fin 768) (s t : Fin 512) : IsR (score Q K o s t) :=
  isR_sum _ fun d => (hQ _ _).mul (hK _ _)

/-- On finite rows, queries and keys the kernel's attention is the textbook's. -/
theorem attK_eq {X : Seq} {Wq Wk : Wt} (Wv : Wt) (hX : FinW X) (hq : FinW Wq) (hk : FinW Wk) : attK X Wq Wk Wv = attR X Wq Wk Wv :=
  funext fun s => funext fun o => smK_eq _ (isR_score (fun r => isR_proj (hX r) hq) (fun r => isR_proj (hX r) hk) o s)

/-- On finite rows, queries and keys the kernel's layer is the textbook's. -/
theorem layerK_eq {X : Seq} {Wq Wk : Wt} (Wv W1 W2 : Wt) (hX : FinW X) (hq : FinW Wq) (hk : FinW Wk) :
    layerK X Wq Wk Wv W1 W2 = layerR X Wq Wk Wv W1 W2 := by
  unfold layerK layerR
  rw [attK_eq Wv hX hq hk]

/-- The rows that a layer hands on are finite. -/
theorem isR_layerR (X : Seq) (Wq Wk Wv W1 W2 : Wt) : FinW (layerR X Wq Wk Wv W1 W2) := fun _ o => isR_lnRow _ o

/-- A hyperbolic tangent is finite, of an infinity too. -/
theorem isR_tanh (x : EReal) : IsR (Ideal.tanh x) := by
  induction x using EReal.rec with
  | bot => exact ⟨-1, rfl⟩
  | coe r => exact ⟨Real.tanh r, rfl⟩
  | top => exact ⟨1, rfl⟩

/-- On finite numbers the kernel's pooling is the textbook's. -/
theorem poolK_eq {T : Seq} {g : Fin 768 → EReal} (hT : FinW T) (hg : ∀ j, IsR (g j)) (j : Fin 768) : poolK T g j = poolR T g j := by
  have hs : (fun s => ∑ j, T s j * g j) = pscore T g := funext fun s => Finset.sum_congr rfl fun j _ => mul_comm _ _
  have hp : ∀ s, IsR (pscore T g s) := fun s => isR_sum _ fun j => (hg j).mul (hT s j)
  unfold poolK poolR
  rw [hs]
  obtain ⟨α, hα⟩ := choose_real hp
  rw [hα]
  obtain ⟨M, hM⟩ := isR_fold (a := fun t => (α t : EReal)) fun t => isR_coe _
  refine Finset.sum_congr rfl fun s _ => ?_
  refine congrArg (· * T s j) ?_
  rw [hM, soft_real]
  simp only [exp_sub_real]
  rw [sum_coe, ← EReal.coe_one, div_real _ (sum_exp_pos _).ne', ← EReal.coe_mul, mul_one_div, shift]

end Cert.Enc
-- ==== Proof.Enc.RefChain.lean ====
module

public import proofs.«01_k».proof.Proof.Enc.RefPool
public import proofs.«01_k».proof.Proof.Enc.Soft
public import proofs.«01_k».proof.Proof.Gen.ReferenceIdeal.Read

/-!
The whole reference: its four layers, each the one layer of `RefLayer` applied to that layer's slices, and what follows them.
-/

@[expose] public section

noncomputable section

namespace Cert.Enc.Ref

open Cert.ReferenceIdeal Cert.ReferenceIdeal.Gen Cert.ReferenceIdeal.Read Idealize.ShloMosaic
open scoped BigOperators

/-- The slice of a stack of matrices is one matrix of it. -/
theorem mat_slice (l : Fin 4) (x : FVec Ideal S4x768x768 .f32) (h : S4x768x768.Slices ![l.val, 0, 0] S1x768x768) :
    mat (extractStridedSlice S1x768x768 ![l.val, 0, 0] x h) = fun o i => x (ix3 l o i) := by
  funext o i
  refine extractStridedSlice_apply _ x h (ix3 0 o i) (ix3 l o i) fun a => ?_
  match a with
  | ⟨0, _⟩ => rfl
  | ⟨1, _⟩ => exact (Nat.zero_add _).symm
  | ⟨2, _⟩ => exact (Nat.zero_add _).symm

/-- The slice of a stack of rows is one row of it. -/
theorem row_slice (l : Fin 4) (x : FVec Ideal S4x768 .f32) (h : S4x768.Slices ![l.val, 0] S1x768) (o : Fin 768) :
    extractStridedSlice S1x768 ![l.val, 0] x h (ix2 0 o) = x (ix2 l o) := by
  refine extractStridedSlice_apply _ x h (ix2 0 o) (ix2 l o) fun a => ?_
  match a with
  | ⟨0, _⟩ => rfl
  | ⟨1, _⟩ => exact (Nat.zero_add _).symm

variable (x0 : FVec Ideal S32x512x768 .f32) (x1 : FVec Ideal S32x16 .f32) (x2 x3 x4 : FVec Ideal S4x768x768 .f32) (x5 x6 : FVec Ideal S4x768 .f32)
  (x7 : FVec Ideal S4x768x768 .f32) (x8 : FVec Ideal S4x768 .f32) (x9 : FVec Ideal S4x768x768 .f32) (x10 x11 x12 : FVec Ideal S4x768 .f32)
  (x13 : FVec Ideal S768x768 .f32) (x14 : FVec Ideal S768 .f32) (x15 : FVec Ideal S1x768 .f32) (x16 : FVec Ideal S256x784 .f32)

/-- One layer on the slices of the stacks at that layer. -/
def lay (l : Fin 4) (h3 : S4x768x768.Slices ![l.val, 0, 0] S1x768x768) (h2 : S4x768.Slices ![l.val, 0] S1x768)
    (X : FVec Ideal S32x512x768 .f32) : FVec Ideal S32x512x768 .f32 :=
  rLayer X (extractStridedSlice S1x768x768 ![l.val, 0, 0] x2 h3) (extractStridedSlice S1x768x768 ![l.val, 0, 0] x3 h3)
    (extractStridedSlice S1x768x768 ![l.val, 0, 0] x4 h3) (extractStridedSlice S1x768 ![l.val, 0] x5 h2) (extractStridedSlice S1x768 ![l.val, 0] x6 h2)
    (extractStridedSlice S1x768x768 ![l.val, 0, 0] x7 h3) (extractStridedSlice S1x768 ![l.val, 0] x8 h2)
    (extractStridedSlice S1x768x768 ![l.val, 0, 0] x9 h3) (extractStridedSlice S1x768 ![l.val, 0] x10 h2)
    (extractStridedSlice S1x768 ![l.val, 0] x11 h2) (extractStridedSlice S1x768 ![l.val, 0] x12 h2)

/-- The first layer. -/
theorem layer0 : val_main_v133 (F := Ideal) x0 x2 x3 x4 x5 x6 x7 x8 x9 x10 x11 x12
    = lay x2 x3 x4 x5 x6 x7 x8 x9 x10 x11 x12 0 slices_S4x768x768_S1x768x768_0_0_0 slices_S4x768_S1x768_0_0 (val_main_v23 (F := Ideal) x0) := rfl

/-- The second layer. -/
theorem layer1 : val_main_v243 (F := Ideal) x0 x2 x3 x4 x5 x6 x7 x8 x9 x10 x11 x12
    = lay x2 x3 x4 x5 x6 x7 x8 x9 x10 x11 x12 1 slices_S4x768x768_S1x768x768_1_0_0 slices_S4x768_S1x768_1_0
        (val_main_v133 (F := Ideal) x0 x2 x3 x4 x5 x6 x7 x8 x9 x10 x11 x12) := rfl

/-- The third layer. -/
theorem layer2 : val_main_v353 (F := Ideal) x0 x2 x3 x4 x5 x6 x7 x8 x9 x10 x11 x12
    = lay x2 x3 x4 x5 x6 x7 x8 x9 x10 x11 x12 2 slices_S4x768x768_S1x768x768_2_0_0 slices_S4x768_S1x768_2_0
        (val_main_v243 (F := Ideal) x0 x2 x3 x4 x5 x6 x7 x8 x9 x10 x11 x12) := rfl

/-- The fourth layer. -/
theorem layer3 : val_main_v463 (F := Ideal) x0 x2 x3 x4 x5 x6 x7 x8 x9 x10 x11 x12
    = lay x2 x3 x4 x5 x6 x7 x8 x9 x10 x11 x12 3 slices_S4x768x768_S1x768x768_3_0_0 slices_S4x768_S1x768_3_0
        (val_main_v353 (F := Ideal) x0 x2 x3 x4 x5 x6 x7 x8 x9 x10 x11 x12) := rfl

/-- What follows the layers. -/
theorem rest_eq : val_main_v489 (F := Ideal) x0 x1 x2 x3 x4 x5 x6 x7 x8 x9 x10 x11 x12 x13 x14 x15 x16
    = rRest (val_main_v463 (F := Ideal) x0 x2 x3 x4 x5 x6 x7 x8 x9 x10 x11 x12) x1 x13 x14 x15 x16 := rfl

/-- One layer of the textbook on the matrices of the stacks. -/
def stR (l : Fin 4) (X : Seq) : Seq :=
  layerR X (fun o i => x2 (ix3 l o i)) (fun o i => x3 (ix3 l o i)) (fun o i => x4 (ix3 l o i)) (fun o i => x7 (ix3 l o i)) fun o i => x9 (ix3 l o i)

/-- One layer, its gains one and its biases zero, is the textbook's. -/
theorem lay_apply (h5 : ∀ l o, x5 (ix2 l o) = 1) (h6 : ∀ l o, x6 (ix2 l o) = 0) (h8 : ∀ l o, x8 (ix2 l o) = 0)
    (h10 : ∀ l o, x10 (ix2 l o) = 0) (h11 : ∀ l o, x11 (ix2 l o) = 1) (h12 : ∀ l o, x12 (ix2 l o) = 0)
    (l : Fin 4) (h3 : S4x768x768.Slices ![l.val, 0, 0] S1x768x768) (h2 : S4x768.Slices ![l.val, 0] S1x768)
    (X : FVec Ideal S32x512x768 .f32) (n : Fin 32) :
    seq (lay x2 x3 x4 x5 x6 x7 x8 x9 x10 x11 x12 l h3 h2 X) n = stR x2 x3 x4 x7 x9 l (seq X n) := by
  unfold lay stR
  rw [rLayer_apply (n := n) (hg1 := fun o => (row_slice l x5 h2 o).trans (h5 l o)) (hb1 := fun o => (row_slice l x6 h2 o).trans (h6 l o))
    (hc1 := fun o => (row_slice l x8 h2 o).trans (h8 l o)) (hc2 := fun o => (row_slice l x10 h2 o).trans (h10 l o))
    (hg2 := fun o => (row_slice l x11 h2 o).trans (h11 l o)) (hb2 := fun o => (row_slice l x12 h2 o).trans (h12 l o))]
  simp only [mat_slice]

/-- The rows the first layer takes: the input plus the encoding of the positions. -/
theorem v23_seq (n : Fin 32) : seq (val_main_v23 (F := Ideal) x0) n = fun s o => x0 (ix3 n s o) + val_main_v20 (F := Ideal) (ix2 s o) := by
  have e : ∀ p : FVec Ideal S512x768 .f32, seq (addf x0 (broadcastInDim S32x512x768 ![0, 1, 2] bcast_S1x512x768_S32x512x768_0_1_2
      (broadcastInDim S1x512x768 ![1, 2] bcast_S512x768_S1x512x768_1_2 p))) n = fun s o => x0 (ix3 n s o) + p (ix2 s o) := by
    intro p
    funext s o
    pointwise [seq]
  exact e _

/-- The reference's result in plain terms. -/
theorem v489_apply (h5 : ∀ l o, x5 (ix2 l o) = 1) (h6 : ∀ l o, x6 (ix2 l o) = 0) (h8 : ∀ l o, x8 (ix2 l o) = 0)
    (h10 : ∀ l o, x10 (ix2 l o) = 0) (h11 : ∀ l o, x11 (ix2 l o) = 1) (h12 : ∀ l o, x12 (ix2 l o) = 0) (h14 : ∀ o, x14 (ix1 o) = 0)
    (n : Fin 32) (o : Fin 256) :
    val_main_v489 (F := Ideal) x0 x1 x2 x3 x4 x5 x6 x7 x8 x9 x10 x11 x12 x13 x14 x15 x16 (ix3 n 0 o)
      = Ideal.tanh (∑ j : Fin 768, poolR (fun s o => Ideal.tanh (proj
              (stR x2 x3 x4 x7 x9 3 (stR x2 x3 x4 x7 x9 2 (stR x2 x3 x4 x7 x9 1 (stR x2 x3 x4 x7 x9 0
                fun s o => x0 (ix3 n s o) + val_main_v20 (F := Ideal) (ix2 s o)))) s) (fun o i => x13 (ix2 o i)) o)) (fun j => x15 (ix2 0 j)) j
            * x16 (ix2 o (Fin.castAdd 16 j))
          + ∑ k : Fin 16, x1 (ix2 n k) * x16 (ix2 o (Fin.natAdd 768 k))) := by
  have hl := lay_apply x2 x3 x4 x5 x6 x7 x8 x9 x10 x11 x12 h5 h6 h8 h10 h11 h12
  rw [rest_eq, rRest_apply _ _ _ _ _ _ h14, layer3, hl, layer2, hl, layer1, hl, layer0, hl, v23_seq]

/-- A quotient of a position by a power of ten thousand is finite. -/
theorem isR_angle (p d : ℝ) (hb : 0 < d) (q : EReal) (hq : IsR q) : IsR (Ideal.div (p : EReal) (Ideal.pow (d : EReal) q)) := by
  obtain ⟨e, rfl⟩ := hq
  show IsR (Ideal.div (p : EReal) ((Real.rpow d e : ℝ) : EReal))
  have h : Real.rpow d e ≠ 0 := (Real.rpow_pos_of_pos hb e).ne'
  rw [div_real p h]
  exact isR_coe _

/-- The base of the encoding is ten thousand. -/
theorem base_eq : Ideal.ofBits .f32 0x461C4000#32 = ((10000 : ℝ) : EReal) := by
  simp [Ideal.ofBits, Ideal.ieee, -EReal.coe_mul]; norm_num

/-- Every angle of the encoding is finite. -/
theorem isR_v14 (s : Fin 512) (o : Fin 768) : IsR (val_main_v14 (F := Ideal) (ix2 s o)) := by
  rw [val_main_v14_apply, val_main_v12_apply, val_main_v13_apply, val_main_v11_apply, val_main_v10_apply, val_main_v9_apply,
    val_main_v8_apply, val_main_v7_apply, val_main_v6_apply, val_main_v1_apply]
  generalize val_main_v5 (F := Ideal) _ = d
  generalize idx_main_v1 _ = i
  show IsR (Ideal.div (((iotaInDim S512 32 0 i).toInt : ℝ) : EReal)
    (Ideal.pow (Ideal.ofBits .f32 0x461C4000#32) (Ideal.div ((d.toInt : ℝ) : EReal) (Ideal.ofBits .f32 0x44400000#32))))
  have h : Ideal.ofBits .f32 0x44400000#32 = ((768 : ℝ) : EReal) := cD_eq
  rw [base_eq, h, div_real _ (by norm_num)]
  exact isR_angle _ _ (by norm_num) _ (isR_coe _)

/-- Every entry of the encoding is finite. -/
theorem isR_v20 (s : Fin 512) (o : Fin 768) : IsR (val_main_v20 (F := Ideal) (ix2 s o)) := by
  obtain ⟨r, hr⟩ := isR_v14 s o
  have h1 : IsR (val_main_v18 (F := Ideal) (ix2 s o)) := by
    rw [val_main_v18_apply, hr]
    exact ⟨Real.sin r, rfl⟩
  have h2 : IsR (val_main_v19 (F := Ideal) (ix2 s o)) := by
    rw [val_main_v19_apply, hr]
    exact ⟨Real.cos r, rfl⟩
  rw [val_main_v20_apply]
  unfold Scalar.select
  split
  · exact h1
  · exact h2

end Cert.Enc.Ref
-- ==== Proof.Enc.Pre.lean ====
module

public import proofs.«01_k».proof.Proof.Enc.Soft
public import proofs.«01_k».proof.Proof.Gen.Pre_published_params
public import Idealize.ShloMosaic.Lib.ReduceAll
public import Idealize.ShloMosaic.Lib.ValueIdx

/-!
What the precondition says: the input, the matrices of queries and keys and the pooling vector are finite, the gains are one, the biases are zero.
-/

@[expose] public section

noncomputable section

namespace Cert.Enc.Pre

open Cert.Pre_published_params Cert.Pre_published_params.Gen Idealize.ShloMosaic

/-- There is one index into an array without axes. -/
instance : Subsingleton S_.Idx := ⟨fun a b => funext fun d => d.elim0⟩

/-- A true bit of a decision means the decision holds. -/
theorem of_bit {p : Prop} [Decidable p] (h : BitVec.ofBool (decide p) = 1#1) : p := by
  by_contra hp
  rw [decide_eq_false hp] at h
  exact absurd h (by decide)

/-- The literal of plus infinity is plus infinity. -/
theorem inf_eq : Ideal.ofBits .f32 0x7F800000#32 = ⊤ := by
  simp [Ideal.ofBits, Ideal.ieee]

/-- The literal of one is one. -/
theorem one_eq : Ideal.ofBits .f32 0x3F800000#32 = 1 := Ideal.ofBits_one_f32

/-- The literal of zero is zero. -/
theorem zero_eq : Ideal.ofBits .f32 0x00000000#32 = 0 := Ideal.ofBits_zero_f32

/-- A magnitude below infinity is a finite number's. -/
theorem isR_of_abs {x : EReal} (h : max x (-x) < ⊤) : IsR x := by
  refine isR_of_ne (fun e => ?_) fun e => ?_
  · subst e; exact absurd h (by simp)
  · subst e; exact absurd h (by simp)

/-- Every entry is finite where every entry's magnitude is below infinity. -/
theorem all_fin {s : Shape} {axes : List (Fin s.rank)} (x : FVec Ideal s .f32) (hb : S_.BroadcastsInDim s (![] : Fin 0 → Fin s.rank))
    (h : s.ReducesTo axes S_) (i : S_.Idx)
    (e : Host.reduce IntOp.andi (cmpf .olt (Host.absf x) (broadcastInDim s ![] hb (constant S_ .f32 0x7F800000#32))) (constantI S_ 1 1#1) h h_S_ i = 1#1)
    (j : s.Idx) : IsR (x j) := by
  have k := Host.reduce_andi_all _ _ h h_S_ i e j
  have q : max (x j) (-(x j)) < Ideal.ofBits .f32 0x7F800000#32 := of_bit k
  rw [inf_eq] at q
  exact isR_of_abs q

/-- Every entry is a literal's value where every entry equals the literal. -/
theorem all_eq {s : Shape} {axes : List (Fin s.rank)} (x : FVec Ideal s .f32) (hb : S_.BroadcastsInDim s (![] : Fin 0 → Fin s.rank))
    (h : s.ReducesTo axes S_) (v : BitVec 32) (i : S_.Idx)
    (e : Host.reduce IntOp.andi (cmpf .oeq x (broadcastInDim s ![] hb (constant S_ .f32 v))) (constantI S_ 1 1#1) h h_S_ i = 1#1)
    (j : s.Idx) : x j = Ideal.ofBits .f32 v :=
  of_bit (Host.reduce_andi_all _ _ h h_S_ i e j)

/-- The precondition, entry by entry. -/
structure Holds (x0 : FVec Ideal S32x512x768 .f32) (x2 x3 : FVec Ideal S4x768x768 .f32) (x5 x6 x8 x10 x11 x12 : FVec Ideal S4x768 .f32)
    (x14 : FVec Ideal S768 .f32) (x15 : FVec Ideal S1x768 .f32) : Prop where
  f0 : ∀ i, IsR (x0 i)
  f2 : ∀ i, IsR (x2 i)
  f3 : ∀ i, IsR (x3 i)
  f15 : ∀ i, IsR (x15 i)
  e5 : ∀ i, x5 i = 1
  e6 : ∀ i, x6 i = 0
  e8 : ∀ i, x8 i = 0
  e10 : ∀ i, x10 i = 0
  e11 : ∀ i, x11 i = 1
  e12 : ∀ i, x12 i = 0
  e14 : ∀ i, x14 i = 0

/-- The precondition's program computing one means its entries are as `Holds` says. -/
theorem holds (x0 : FVec Ideal S32x512x768 .f32) (x1 : FVec Ideal S32x16 .f32) (x2 x3 x4 : FVec Ideal S4x768x768 .f32)
    (x5 x6 : FVec Ideal S4x768 .f32) (x7 : FVec Ideal S4x768x768 .f32) (x8 : FVec Ideal S4x768 .f32) (x9 : FVec Ideal S4x768x768 .f32)
    (x10 x11 x12 : FVec Ideal S4x768 .f32) (x13 : FVec Ideal S768x768 .f32) (x14 : FVec Ideal S768 .f32) (x15 : FVec Ideal S1x768 .f32)
    (x16 : FVec Ideal S256x784 .f32) (i : S_.Idx) (h : fn (F := Ideal) x0 x1 x2 x3 x4 x5 x6 x7 x8 x9 x10 x11 x12 x13 x14 x15 x16 i = 1#1) :
    Holds x0 x2 x3 x5 x6 x8 x10 x11 x12 x14 x15 := by
  obtain ⟨h, h14⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h8⟩ := IntOp.andi_eq_one.1 h
  obtain ⟨h, h6⟩ := IntOp.andi_eq_one.1 h
  obtain ⟨h, h5⟩ := IntOp.andi_eq_one.1 h
  obtain ⟨h, h15⟩ := IntOp.andi_eq_one.1 h
  obtain ⟨h, h3⟩ := IntOp.andi_eq_one.1 h
  obtain ⟨h0, h2⟩ := IntOp.andi_eq_one.1 h
  exact
    { f0 := all_fin x0 _ _ i h0, f2 := all_fin x2 _ _ i h2, f3 := all_fin x3 _ _ i h3, f15 := all_fin x15 _ _ i h15
      e5 := fun j => (all_eq x5 _ _ _ i h5 j).trans one_eq, e6 := fun j => (all_eq x6 _ _ _ i h6 j).trans zero_eq
      e8 := fun j => (all_eq x8 _ _ _ i h8 j).trans zero_eq, e10 := fun j => (all_eq x10 _ _ _ i h10 j).trans zero_eq
      e11 := fun j => (all_eq x11 _ _ _ i h11 j).trans one_eq, e12 := fun j => (all_eq x12 _ _ _ i h12 j).trans zero_eq
      e14 := fun j => (all_eq x14 _ _ _ i h14 j).trans zero_eq }

end Cert.Enc.Pre
-- ==== Proof.Enc.Join.lean ====
module

public import proofs.«01_k».proof.Proof.Enc.Grid
public import proofs.«01_k».proof.Proof.Enc.RefChain
public import proofs.«01_k».proof.Proof.Enc.Pre
public import proofs.«01_k».proof.Defs

/-!
The kernel's array of results and the reference's are one and the same array under the precondition.
-/

@[expose] public section

noncomputable section

namespace Cert.Enc.Join

open Cert.KernelIdeal Cert.KernelIdeal.Gen Cert.KernelIdeal.Value Cert.Enc.Ker
open Idealize.ShloMosaic Idealize.ShloMosaic.TcCoe Idealize.SL.Sem
open Cert.ReferenceIdeal.Read (val_main_v20 val_main_v489)
open scoped BigOperators

variable (m : (ℓ : Loc nD τ sig) → Buf (Elt Ideal) ℓ) (c : Dev nD)

/-- The precondition of the arguments on a device, entry by entry. -/
def Good : Prop :=
  Pre.Holds (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6))
    (m ((c.tc : Thread nD τ).loc main_arg8)) (m ((c.tc : Thread nD τ).loc main_arg10)) (m ((c.tc : Thread nD τ).loc main_arg11)) (m ((c.tc : Thread nD τ).loc main_arg12)) (m ((c.tc : Thread nD τ).loc main_arg14)) (m ((c.tc : Thread nD τ).loc main_arg15))

/-- The precondition's program read on a device. -/
theorem good (h : Cert.Pre_KernelIdeal_published_params m) : Good m c :=
  Pre.holds _ _ _ _ _ _ _ _ _ _ _ _ _ _ _ _ _ (fun a => a.elim0) (congrFun (h c) _)

/-- One layer of the textbook, with the arguments' weights. -/
def stT (l : Fin 4) (X : Seq) : Seq :=
  Ref.stR (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg9)) l X

variable {m c}

/-- On finite rows the kernel's layer is the textbook's. -/
theorem st_eq (h : Good m c) (l : Fin 4) {X : Seq} (hX : FinW X) : stK m c l X = stT m c l X :=
  layerK_eq _ _ _ hX (fun _ _ => h.f2 _) fun _ _ => h.f3 _

/-- The textbook's layer hands on finite rows. -/
theorem st_fin (l : Fin 4) (X : Seq) : FinW (stT m c l X) := isR_layerR _ _ _ _ _ _

/-- Two passes whose layers agree on finite rows, and hand on finite rows, agree on finite rows. -/
theorem enc_eq {f g : Fin 4 → Seq → Seq} (he : ∀ l X, FinW X → f l X = g l X) (hf : ∀ l X, FinW (g l X)) {X : Seq} (hX : FinW X) :
    ∀ k : ℕ, enc f k X = enc g k X ∧ FinW (enc g k X)
  | 0 => ⟨rfl, hX⟩
  | k + 1 =>
    have ih := enc_eq he hf hX k
    ⟨(congrArg (f _) ih.1).trans (he _ _ ih.2), hf _ _⟩

/-- Four layers, one after another. -/
theorem enc_four (g : Fin 4 → Seq → Seq) (X : Seq) : enc g 4 X = g 3 (g 2 (g 1 (g 0 X))) := rfl

/-- A result row of the textbook. -/
def resR (Y : Seq) (W : Wt) (g : Fin 768 → EReal) (A : Fin 768 → Fin 256 → EReal) (f : Fin 16 → EReal) (B : Fin 16 → Fin 256 → EReal)
    (o : Fin 256) : EReal :=
  Ideal.tanh (∑ j, poolR (trans Y W) g j * A j o + ∑ k, f k * B k o)

/-- With a finite pooling vector the kernel's result row is the textbook's. -/
theorem resK_eq (Y : Seq) (W : Wt) {g : Fin 768 → EReal} (hg : ∀ j, IsR (g j)) (A : Fin 768 → Fin 256 → EReal) (f : Fin 16 → EReal)
    (B : Fin 16 → Fin 256 → EReal) (o : Fin 256) : resK Y W g A f B o = resR Y W g A f B o :=
  congrArg Ideal.tanh (congrArg (· + _) (Finset.sum_congr rfl fun j _ =>
    congrArg (· * A j o) (poolK_eq (fun s i => isR_tanh (proj (Y s) W i)) hg j)))

/-- The rows the first layer takes are finite. -/
theorem X0_fin (h : Good m c) (n : Fin 32) : FinW (X0 m c n) := fun s o => (h.f0 _).add (Ref.isR_v20 s o)

/-- The kernel's four layers are the textbook's. -/
theorem rows_eq (h : Good m c) (n : Fin 32) :
    enc (stK m c) 4 (X0 m c n) = stT m c 3 (stT m c 2 (stT m c 1 (stT m c 0 (X0 m c n)))) :=
  (enc_eq (fun l _ hX => st_eq h l hX) (fun l X => st_fin l X) (X0_fin h n) 4).1.trans (enc_four _ _)

/-- A result of the kernel is the textbook's. -/
theorem outK_eq (h : Good m c) (n : Fin 32) (o : Fin 256) :
    outK m c n o = resR (stT m c 3 (stT m c 2 (stT m c 1 (stT m c 0 (X0 m c n)))))
      (fun o i => (m ((c.tc : Thread nD τ).loc main_arg13) : FVec Ideal S768x768 .f32) (ix2 o i))
      (fun j => (m ((c.tc : Thread nD τ).loc main_arg15) : FVec Ideal S1x768 .f32) (ix2 0 j))
      (fun j o => (m ((c.tc : Thread nD τ).loc main_arg16) : FVec Ideal S256x784 .f32) (ix2 o (Fin.castAdd 16 j)))
      (fun k => (m ((c.tc : Thread nD τ).loc main_arg1) : FVec Ideal S32x16 .f32) (ix2 n k))
      (fun k o => (m ((c.tc : Thread nD τ).loc main_arg16) : FVec Ideal S256x784 .f32) (ix2 o (Fin.natAdd 768 k))) o := by
  unfold outK
  rw [rows_eq h n]
  exact resK_eq _ _ (fun j => h.f15 _) _ _ _ o

/-- The two arrays of results are equal. -/
theorem same (h : Good m c) : G10 (F := Ideal) m c = val_main_v489 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  funext i
  have hi : i = ix3 (i 0) 0 (i 2) := funext fun a => match a with
    | ⟨0, _⟩ => rfl
    | ⟨1, _⟩ => Subsingleton.elim (α := Fin 1) _ _
    | ⟨2, _⟩ => rfl
  rw [hi]
  refine (G10_apply m c (i 0) (i 2)).trans ((outK_eq h (i 0) (i 2)).trans ?_)
  refine (Ref.v489_apply _ _ _ _ _ _ _ _ _ _ _ _ _ _ _ _ _ (fun l o => h.e5 _) (fun l o => h.e6 _) (fun l o => h.e8 _) (fun l o => h.e10 _)
    (fun l o => h.e11 _) (fun l o => h.e12 _) (fun o => h.e14 _) (i 0) (i 2)).symm

end Cert.Enc.Join
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_published_params
public import proofs.«01_k».proof.Proof.Gen.KernelIdeal.Value
public import proofs.«01_k».proof.Proof.Gen.ReferenceIdeal.Run
public import proofs.«01_k».proof.Proof.Gen.ReferenceIdeal.Read
public import proofs.«01_k».proof.Proof.Enc.Join
public import Idealize.ShloMosaic.Lib.Quiescent
public import Idealize.ShloMosaic.Adequacy
public import Idealize.ShloMosaic.Init

@[expose] public section

noncomputable section

namespace Cert.Proof

open Idealize.ShloMosaic Idealize.SL.Sem

/-- The reference, from any memory, keeps its arguments and leaves every counter at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- The result of the reference, from arguments that agree with the kernel's, is the kernel's. -/
theorem value_reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : Cert.Enc.Join.Good m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Read.val_main_v489 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
      = Cert.KernelIdeal.Value.G10 (F := Ideal) m c := by
  rw [e0, e1, e2, e3, e4, e5, e6, e7, e8, e9, e10, e11, e12, e13, e14, e15, e16]
  exact (Cert.Enc.Join.same h).symm

/-- Under the precondition kernel and reference end with the same results. -/
theorem algebraic : Cert.algebraic_KernelIdeal_ReferenceIdeal_pre_published_params (hKernelIdeal := Cert.KernelIdeal.Gen.facts)
    (hReferenceIdeal := Cert.ReferenceIdeal.Gen.facts) (hPre_published_params := Cert.Pre_published_params.Gen.facts) := fun m g m' g' hp he =>
  ⟨fun c => Cert.KernelIdeal.Value.G10 (F := Ideal) m c, Cert.KernelIdeal.Value.run (F := Ideal) m g,
    (θ_run _ _ _).mono (fun _ h c => by
      obtain ⟨e0, e1, e2, e3, e4, e5, e6, e7, e8, e9, e10, e11, e12, e13, e14, e15, e16⟩ := he c
      exact ⟨(h c).1.trans ((Cert.ReferenceIdeal.Read.val_main_v489_eq _).trans
        (value_reference m m' c (Cert.Enc.Join.good m c hp) e0 e1 e2 e3 e4 e5 e6 e7 e8 e9 e10 e11 e12 e13 e14 e15 e16)), (h c).2⟩) (Cert.ReferenceIdeal.Value.run (F := Ideal) m' g')⟩

/-- Everything claimed. -/
theorem claim : Cert.Claim :=
  ⟨Cert.Kernel.Gen.facts, Cert.KernelIdeal.Gen.facts, Cert.ReferenceIdeal.Gen.facts, Cert.Pre_published_params.Gen.facts,
    fun m g _ => Cert.Kernel.Gen.frame m g, fun m g _ => Cert.KernelIdeal.Gen.frame m g, fun m g _ => Cert.KernelIdeal.Gen.frame m g,
    frame_reference, fun m g _ => frame_reference m g trivial, IdealRules.named_const.statement Cert.KernelIdeal.κ "log2e_over_8" .f32 0x3E38AA3B#32 _ rfl,
    algebraic⟩

end Cert.Proof

end
